-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 1536]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![1536, 768]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![192, 768]⟩ ⟨2, ![768, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S192x768 : Shape := ⟨2, ![192, 768]⟩
abbrev S6x96x768 : Shape := ⟨3, ![6, 96, 768]⟩
abbrev S2x96x768 : Shape := ⟨3, ![2, 96, 768]⟩
abbrev S6 : Shape := ⟨1, ![6]⟩
abbrev S_ : Shape := ⟨0, ![]⟩
abbrev S192x384 : Shape := ⟨2, ![192, 384]⟩
abbrev S96x768 : Shape := ⟨2, ![96, 768]⟩
abbrev S1x96x768 : Shape := ⟨3, ![1, 96, 768]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S192x768, .bf16⟩
  | .local _ .vmem, ⟨0, _⟩ => ⟨S768x384, .bf16⟩
  | .local _ .vmem, ⟨1, _⟩ => ⟨S384x768, .bf16⟩
  | .local _ .vmem, ⟨2, _⟩ => ⟨S192x768, .bf16⟩
  | .local _ .vmem, ⟨3, _⟩ => ⟨S6x96x768, .bf16⟩
  | .local _ .vmem, ⟨4, _⟩ => ⟨S2x96x768, .bf16⟩
  | .local _ .vmem, ⟨5, _⟩ => ⟨S6x96x768, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v32 : BitVec 32 := Scalar.addi v2 c2_i32
  let c4_i32_20 : BitVec 32 := 4#32
  let c0_i32_21 : BitVec 32 := 0#32
  let v33 : BitVec 1 := Scalar.cmpi .eq c4_i32_20 c0_i32_21
  let c1_i32_22 : BitVec 32 := 1#32
  let v34 : BitVec 32 := Scalar.select v33 c1_i32_22 c4_i32_20
  let v35 : BitVec 32 := Scalar.remsi v32 v34
  let c0_i32_24 : BitVec 32 := 0#32
  let v37 : BitVec 1 := Scalar.cmpi .slt v35 c0_i32_24
  let c0_i32_25 : BitVec 32 := 0#32
  let v38 : BitVec 1 := Scalar.cmpi .slt v34 c0_i32_25
  let v39 : BitVec 1 := Scalar.xori v37 v38
  let c0_i32_23 : BitVec 32 := 0#32
  let v36 : BitVec 1 := Scalar.cmpi .ne v35 c0_i32_23
  let v40 : BitVec 1 := Scalar.andi v39 v36
  let v41 : BitVec 32 := Scalar.addi v35 v34
  let v42 : BitVec 32 := Scalar.select v40 v41 v35
  let c192_i32 : BitVec 32 := 192#32
  let v43 : BitVec 32 := Scalar.muli v42 c192_i32
  let v44 : Index := Scalar.indexCast v43
  let c0_26 : Index := 0#32
  ![v44.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_37 : BitVec 32 := 1#32
  let v57 : BitVec 32 := Scalar.muli v13 c1_i32_37
  let v58 : BitVec 32 := Scalar.addi c0_i32_38 v57
  v58.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_47 : BitVec 32 := 1#32
  let v67 : BitVec 32 := Scalar.muli v24 c1_i32_47
  let v68 : BitVec 32 := Scalar.addi c0_i32_48 v67
  v68.toNat
def k0_dev5 (d0 : Dev nD) : Nat :=
  let c0_i32_65 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_64 : BitVec 32 := 1#32
  let v91 : BitVec 32 := Scalar.muli v24 c1_i32_64
  let v92 : BitVec 32 := Scalar.addi c0_i32_65 v91
  v92.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c192_i32_70 : BitVec 32 := 192#32
  let v101 : BitVec 32 := Scalar.muli v13 c192_i32_70
  let v102 : Index := Scalar.indexCast v101
  let c0_71 : Index := 0#32
  ![v102.toNat, 0]
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_80 : BitVec 32 := 1#32
  let v115 : BitVec 32 := Scalar.muli v13 c1_i32_80
  let v116 : BitVec 32 := Scalar.addi c0_i32_81 v115
  v116.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c192_i32_86 : BitVec 32 := 192#32
  let v125 : BitVec 32 := Scalar.muli v2 c192_i32_86
  let v126 : Index := Scalar.indexCast v125
  let c0_87 : Index := 0#32
  ![v126.toNat, 0]
def k0_dev7 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_114 : BitVec 32 := 1#32
  let v154 : BitVec 32 := Scalar.muli v24 c1_i32_114
  let v155 : BitVec 32 := Scalar.addi c0_i32_115 v154
  v155.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_143 : BitVec 32 := 1#32
  let v183 : BitVec 32 := Scalar.muli v13 c1_i32_143
  let v184 : BitVec 32 := Scalar.addi c0_i32_144 v183
  v184.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x1536 : Shape := ⟨2, ![768, 1536]⟩
abbrev S1536x768 : Shape := ⟨2, ![1536, 768]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S768x1536, .bf16⟩
  | .hbm, ⟨1, _⟩ => ⟨S1536x768, .bf16⟩
  | .hbm, ⟨2, _⟩ => ⟨S768x768, .f32⟩
  | .hbm, ⟨3, _⟩ => ⟨S768x768, .bf16⟩
  | _, _ => ⟨S768x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/-
The ring of four devices of the reduce-scatter: the neighbours, the slots of the staging and receive buffers, the
contents each slot carries, the cells of the semaphores.

Device `c` signals both neighbours' barrier and waits for both signals. It then sends six 96-row slabs: transfer `k`
leaves staging slot `k` of `c` and lands in receive slot `land k` of `peer k c`. Slabs 0‥3 are halves of `c`'s partial
products; slab 4 is a partial product plus what landed in receive slot 0, slab 5 a partial product plus what landed in
receive slot 1. Each half of the result is `c`'s own partial product plus the slabs landed in slots 2, 4 (upper half)
or 3, 5 (lower half).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Writes
public import Idealize.ShloMosaic.Lib.Tactic

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The neighbours -/

/-- The device to the right of `c`. -/
def nxt (c : Dev nD) : Dev nD := ⟨(c.val + 1) % 4, Nat.mod_lt _ (by decide)⟩
/-- The device to the left of `c`. -/
def prv (c : Dev nD) : Dev nD := ⟨(c.val + 3) % 4, Nat.mod_lt _ (by decide)⟩

/-- The right neighbour's left neighbour is the device itself. -/
theorem prv_nxt (c : Dev nD) : prv (nxt c) = c := by revert c; decide
/-- The left neighbour's right neighbour is the device itself. -/
theorem nxt_prv (c : Dev nD) : nxt (prv c) = c := by revert c; decide

/-- Going right, as a permutation of the devices. -/
def ring : Dev nD ≃ Dev nD := ⟨nxt, prv, prv_nxt, nxt_prv⟩

/-- Whether transfer `k` goes to the right neighbour. -/
def right (k : Fin 6) : Bool := match k with
  | 0 => false | 1 => true | 2 => true | 3 => false | 4 => true | 5 => false

/-- The receive slot in which transfer `k` lands; it is its own inverse. -/
def land (k : Fin 6) : Fin 6 := match k with
  | 0 => 1 | 1 => 0 | 2 => 2 | 3 => 3 | 4 => 5 | 5 => 4

/-- `land` is its own inverse. -/
theorem land_land (k : Fin 6) : land (land k) = k := by revert k; decide

/-- The neighbour of `c` on one side: the right one for `true`. -/
def nbr (b : Bool) (c : Dev nD) : Dev nD := if b then nxt c else prv c

/-- The device that transfer `k` of `c` addresses. -/
abbrev peer (k : Fin 6) (c : Dev nD) : Dev nD := nbr (right k) c

/-- The device that fills receive slot `j` of `c`. -/
abbrev from' (j : Fin 6) (c : Dev nD) : Dev nD := nbr (!right (land j)) c

/-- Going one way and back. -/
theorem nbr_nbr (b : Bool) (c : Dev nD) : nbr (!b) (nbr b c) = c := by revert b c; decide

/-- Receive slot `land k` of the device that transfer `k` of `c` addresses is filled by `c`. -/
theorem from'_peer (k : Fin 6) (c : Dev nD) : from' (land k) (peer k c) = c := by
  unfold from' peer; rw [land_land]; exact nbr_nbr _ _

/-- The devices the program computes: the two signals', then the six transfers'. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = peer 0 c := by revert c; decide +kernel
theorem dev4_eq (c : Dev nD) : (⟨k0_dev4 c, k0_dev4_lt c⟩ : Dev nD) = peer 1 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 3 c := by revert c; decide +kernel
theorem dev7_eq (c : Dev nD) : (⟨k0_dev7 c, k0_dev7_lt c⟩ : Dev nD) = peer 4 c := by revert c; decide +kernel
theorem dev8_eq (c : Dev nD) : (⟨k0_dev8 c, k0_dev8_lt c⟩ : Dev nD) = peer 5 c := by revert c; decide +kernel

/-! ## The row chunks of the left operand -/

/-- Chunk `q` of 192 rows lies inside the 768 rows. -/
theorem chunk_inb (q : Dev nD) : ∀ a, (![192 * q.val, 0] : Fin 2 → ℕ) a + S192x384.size a ≤ S768x384.size a := by
  revert q; decide

/-- The offsets of the chunk loads: the chunk two to the right, the right one, the left one. -/
theorem off1_two (c : Dev nD) : k0_off1 c 2#32 = ![192 * (nxt (nxt c)).val, 0] := by revert c; decide +kernel
theorem off1_one (c : Dev nD) : k0_off1 c 1#32 = ![192 * (nxt c).val, 0] := by revert c; decide +kernel
theorem off2_eq (c : Dev nD) : k0_off2 c = ![192 * (prv c).val, 0] := by revert c; decide +kernel

/-- What a load of 192 rows at offsets `off` reads of the left operand's staging buffer at `X`. -/
def rowsAt (X : Vec F S768x384 .bf16) (off : Fin 2 → ℕ) (inb : ∀ a, off a + S192x384.size a ≤ S768x384.size a) : Vec F S192x384 .bf16 :=
  (Memref.whole cc0_stg0_0 : Memref sig .tc .vmem S768x384 .bf16).view.readAt (Elt F)
    (Rect.unit (s := S768x384) off S192x384.size inb).toLoadRect X

/-- Chunk `q` of 192 rows of `X`. -/
def chunk (X : Vec F S768x384 .bf16) (q : Dev nD) : Vec F S192x384 .bf16 := rowsAt X ![192 * q.val, 0] (chunk_inb q)

omit [FloatOps F] in
/-- A load at offsets that are chunk `q`'s reads chunk `q`. -/
theorem rowsAt_eq (X : Vec F S768x384 .bf16) (q : Dev nD) {off : Fin 2 → ℕ} (h : off = ![192 * q.val, 0]) (inb) :
    rowsAt X off inb = chunk X q := by subst h; rfl

/-! ## The slots of the staging and the receive buffer -/

abbrev aM : Memref sig .tc .vmem S768x384 .bf16 := Memref.whole cc0_stg0_0
abbrev bM : Memref sig .tc .vmem S384x768 .bf16 := Memref.whole cc0_stg1_0
abbrev oM : Memref sig .tc .vmem S192x768 .bf16 := Memref.whole cc0_stg2_0
abbrev stM : Memref sig .tc .vmem S6x96x768 .bf16 := Memref.whole cc0_scratch0
abbrev ownM : Memref sig .tc .vmem S2x96x768 .bf16 := Memref.whole cc0_scratch1
abbrev rcM : Memref sig .tc .vmem S6x96x768 .bf16 := Memref.whole cc0_scratch2

/-- Slot `k` lies inside the six. -/
theorem slot_inb (k : Fin 6) : ∀ a, (![k.val, 0, 0] : Fin 3 → ℕ) a + S1x96x768.size a ≤ S6x96x768.size a := by
  revert k; decide

/-- Slot `k` as a rectangle. -/
abbrev slotR (k : Fin 6) : Rect S6x96x768 := Rect.unit (s := S6x96x768) ![k.val, 0, 0] S1x96x768.size (slot_inb k)

/-- Slot `k` of a six-slot buffer, as a slice. -/
abbrev slotS (M : Memref sig .tc .vmem S6x96x768 .bf16) (k : Fin 6) : Memref sig .tc .vmem S1x96x768 .bf16 :=
  M.slice (slotR k) (fun _ => rfl)

/-- Slot `k` of a six-slot buffer, as a transfer names it. -/
abbrev slotM (M : Memref sig .tc .vmem S6x96x768 .bf16) (k : Fin 6) : Memref sig .tc .vmem S96x768 .bf16 :=
  (slotS M k).squeeze S96x768 squeezes_S1x96x768_S96x768

/-- Two slots are disjoint. -/
theorem slot_disjoint (k k' : Fin 6) (h : k ≠ k') : Disjoint (slotR k).set (slotR k').set := by
  rw [Finset.disjoint_left]
  intro i hi hi'
  rw [Rect.mem_set_unit] at hi hi'
  have h1 := hi 0
  have h2 := hi' 0
  simp only [Matrix.cons_val_zero, Shape.size] at h1 h2
  exact h (Fin.ext (by omega))

/-- The six slots are the whole buffer. -/
theorem slot_cover : (Finset.univ : Finset (Fin 6)).biUnion (fun k => (slotR k).set) = Finset.univ := by
  ext i
  simp only [Finset.mem_biUnion, Finset.mem_univ, true_and, iff_true]
  refine ⟨⟨(i 0).val, (i 0).isLt⟩, ?_⟩
  rw [Rect.mem_set_unit]
  intro a
  fin_cases a
  · exact ⟨le_rfl, Nat.lt_succ_self _⟩
  · exact ⟨Nat.zero_le _, by simpa using (i 1).isLt⟩
  · exact ⟨Nat.zero_le _, by simpa using (i 2).isLt⟩

/-- What one landed slab credits. -/
abbrev N : ℕ := (slotM rcM 0).view.dmaCredit
theorem N_pos : 0 < N := View.dmaCredit_pos _ (by decide)

/-- Every slab credits the same. -/
theorem credit_st (k : Fin 6) : (slotM stM k).view.dmaCredit = N := rfl
theorem credit_rc (k : Fin 6) : (slotM rcM k).view.dmaCredit = N := rfl

/-! ## The semaphores and their cells -/

/-- A device's cells: its barrier, its six send cells (`false`), its six receive cells (`true`). -/
abbrev CK : Type := Option (Bool × Fin 6)

abbrev barS : Sem sig := sig.barrier 0 rfl
abbrev sendS (k : Fin 6) : DmaSem sig := ⟨3 + k.val, by have := k.isLt; show 3 + k.val < 15; omega⟩
abbrev recvS (k : Fin 6) : DmaSem sig := ⟨9 + k.val, by have := k.isLt; show 9 + k.val < 15; omega⟩

/-- The semaphore of a cell. -/
def csem : CK → SemLoc sig
  | none => .reg barS
  | some (false, k) => .dma (sendS k)
  | some (true, k) => .dma (recvS k)

/-- The cell a semaphore is, if it is one. -/
def ckOf : SemLoc sig → Option CK
  | .reg _ => some none
  | .dma q => if h : 3 ≤ q.val ∧ q.val < 9 then some (some (false, ⟨q.val - 3, by omega⟩))
    else if h : 9 ≤ q.val ∧ q.val < 15 then some (some (true, ⟨q.val - 9, by omega⟩)) else none

/-- A cell is read back off its semaphore. -/
theorem ckOf_csem (k : CK) : ckOf (csem k) = some k := by revert k; decide

/-- Different cells are different semaphores. -/
theorem csem_inj : Function.Injective csem := fun a b h => by
  have := congrArg ckOf h; rw [ckOf_csem, ckOf_csem] at this; exact Option.some.inj this

/-- Cell `k` of device `c`. -/
abbrev cell (c : Dev nD) (k : CK) : GSem nD τ sig := ((c : Thread nD τ), csem k)

/-- A cell determines its device and its kind. -/
theorem cell_inj {c c' : Dev nD} {k k' : CK} (h : cell c k = cell c' k') : c = c' ∧ k = k' :=
  ⟨congrArg (fun g : GSem nD τ sig => g.1.1) h, csem_inj (congrArg Prod.snd h)⟩

abbrev barC (c : Dev nD) : GSem nD τ sig := cell c none
abbrev sendC (c : Dev nD) (k : Fin 6) : GSem nD τ sig := cell c (some (false, k))
abbrev recvC (c : Dev nD) (k : Fin 6) : GSem nD τ sig := cell c (some (true, k))

end Cert.RS
-- ==== Proof.Sched.lean ====
/-
The contents the slabs carry, and the schedule of the barrier, send and receive cells of the reduce-scatter.
-/
module

public import proofs.«01_k».proof.Proof.Ring

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) Bool
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- What the left operand's staging buffer of `c` holds: `c`'s block of the left operand. -/
def aV (c : Dev nD) : Vec F S768x384 .bf16 := (win0_0.blk (0 : Fin 1)).view.read (Elt F) (m ((c : Thread nD τ).loc main_arg0))
/-- What the right operand's staging buffer of `c` holds: `c`'s block of the right operand. -/
def bV (c : Dev nD) : Vec F S384x768 .bf16 := (win0_1.blk (0 : Fin 1)).view.read (Elt F) (m ((c : Thread nD τ).loc main_arg1))

/-- The slabs of `c`'s own partial products: halves of the product of a row chunk of `c`'s left block with its right block. -/
def base (c : Dev nD) (k : Fin 6) : Vec F S1x96x768 .bf16 := match k with
  | 0 => k0_pay3 (k0_pay1 (bV m c)) (chunk (aV m c) (nxt (nxt c)))
  | 1 => k0_pay4 (k0_pay1 (bV m c)) (chunk (aV m c) (nxt (nxt c)))
  | 2 => k0_pay6 (k0_pay1 (bV m c)) (chunk (aV m c) (nxt c))
  | 3 => k0_pay10 (k0_pay1 (bV m c)) (chunk (aV m c) (prv c))
  | 4 => k0_pay7 (k0_pay1 (bV m c)) (chunk (aV m c) (nxt c))
  | 5 => k0_pay9 (k0_pay1 (bV m c)) (chunk (aV m c) (prv c))

/-- What transfer `k` of `c` sends: a partial product, for 4 and 5 with the neighbour's slab added. -/
def sent (c : Dev nD) (k : Fin 6) : Vec F S1x96x768 .bf16 := match k with
  | 4 => k0_pay12 (base m c 4) (base m (prv c) 1)
  | 5 => k0_pay13 (base m c 5) (base m (nxt c) 0)
  | k => base m c k

/-- What lands in receive slot `j` of `c`. -/
def landed (c : Dev nD) (j : Fin 6) : Vec F S1x96x768 .bf16 := sent m (from' j c) (land j)

omit [FloatOps F] in
/-- What transfer `k` of `c` sends is what lands in slot `land k` of its addressee. -/
theorem landed_peer [FloatOps F] (c : Dev nD) (k : Fin 6) : landed m (peer k c) (land k) = sent m c k := by
  unfold landed; rw [from'_peer, land_land]

/-- `c`'s own partial product of its own row chunk, as two slabs. -/
def ownV (c : Dev nD) : Vec F S2x96x768 .bf16 := k0_pay11 (k0_pay1 (bV m c)) (chunk (aV m c) c)

/-- Half `h` of the two-slab buffer, as a rectangle. -/
abbrev halfR (h : Fin 2) : Rect S2x96x768 :=
  Rect.unit (s := S2x96x768) ![h.val, 0, 0] S1x96x768.size (by revert h; decide)
/-- Half `h` of `c`'s own partial product. -/
def ownHalf (c : Dev nD) (h : Fin 2) : Vec F S1x96x768 .bf16 := ownM.view.readAt (Elt F) (halfR h).toLoadRect (ownV m c)

/-- The upper and the lower half of the result, as rectangles. -/
abbrev outR (h : Fin 2) : Rect S192x768 :=
  Rect.unit (s := S192x768) ![96 * h.val, 0] S96x768.size (by revert h; decide)

/-- The two halves of `c`'s result: its own partial product plus two landed slabs. -/
def outHalf (c : Dev nD) (h : Fin 2) : Vec F S96x768 .bf16 := match h with
  | 0 => k0_pay14 (ownHalf m c 0) (landed m c 2) (landed m c 4)
  | 1 => k0_pay15 (ownHalf m c 1) (landed m c 3) (landed m c 5)

/-- The two halves written over `f`. -/
def outOver (c : Dev nD) (f : Vec F S192x768 .bf16) : Vec F S192x768 .bf16 :=
  (oM.access (outR 1)).write (Elt F) ((oM.access (outR 0)).write (Elt F) f (outHalf m c 0) Finset.univ) (outHalf m c 1) Finset.univ

/-- `c`'s result: the two halves, which cover the result buffer. -/
def outV (c : Dev nD) : Vec F S192x768 .bf16 := outOver m c (k0_pay2 (k0_pay1 (bV m c)) (chunk (aV m c) c))

/-! ## What is held of a slot -/

/-- Slot `k` of a six-slot buffer of `c` holds `X`. -/
def has (c : Dev nD) (M : Memref sig .tc .vmem S6x96x768 .bf16) (k : Fin 6) (X : Vec F S1x96x768 .bf16) : sProp 𝕄 :=
  owns (c : Thread nD τ) (slotS M k) fullShare X

/-- Slot `k` of a six-slot buffer of `c` holds something. -/
def any (c : Dev nD) (M : Memref sig .tc .vmem S6x96x768 .bf16) (k : Fin 6) : sProp 𝕄 := iprop(∃ X, has (F := F) c M k X)

omit [FloatOps F] in
instance has_storable (c : Dev nD) (M) (k : Fin 6) (X) : BI.Storable (upEmb : UEmb _ 𝕄) (has (F := F) c M k X) := by unfold has; infer_instance
omit [FloatOps F] in
instance any_storable (c : Dev nD) (M) (k : Fin 6) : BI.Storable (upEmb : UEmb _ 𝕄) (any (F := F) c M k) := by unfold any; infer_instance

/-! ## The schedule -/

/-- What the neighbour on side `d` hands `c` by its barrier signal: its receive slots in which `c`'s transfers to it land. -/
def barPay (c : Dev nD) (d : Bool) : sProp 𝕄 :=
  bigSep (Finset.univ.filter fun k : Fin 6 => right k = d) fun k => any (F := F) (nbr d c) rcM (land k)

omit [FloatOps F] in
instance barPay_storable (c : Dev nD) (d : Bool) : BI.Storable (upEmb : UEmb _ 𝕄) (barPay (F := F) c d) := by unfold barPay; infer_instance

/-- The duties of a cell: both neighbours' signals at a barrier, the one slab's credit elsewhere. -/
def cellDuties : Option CK → Finset Bool
  | none => ∅ | some none => Finset.univ | some (some _) => {false}

/-- The units of a duty. -/
def cellAmount : Option CK → ℕ
  | some (some _) => N | _ => 1

/-- What a duty hands over: slots at a barrier, the staging slot back at a send cell, the landed slab at a receive cell. -/
def cellPay (c : Dev nD) (d : Bool) : Option CK → sProp 𝕄
  | none => iprop(emp)
  | some none => barPay c d
  | some (some (false, k)) => any c stM k
  | some (some (true, j)) => has c rcM j (landed m c j)

/-- One round: every cell has its duties in round 0 and none later. -/
def rd : Rounds.Schedule (GSem nD τ sig) Bool 𝕄 where
  duties g r := if r = 0 ∧ g.1.2 = .tc then cellDuties (ckOf g.2) else ∅
  unitless _ := False
  amount g _ _ := cellAmount (ckOf g.2)
  payload g _ d := cellPay m g.1.1 d (ckOf g.2)
  amount_pos g _ _ _ := by
    unfold cellAmount; split
    · exact N_pos
    · exact Nat.one_pos

instance rd_storable (g : GSem nD τ sig) (r : ℕ) (d : Bool) : BI.Storable (upEmb : UEmb _ 𝕄) ((rd m).payload g r d) := by
  show BI.Storable upEmb (cellPay m g.1.1 d (ckOf g.2))
  unfold cellPay; split <;> infer_instance

/-- The duties, amounts and payloads of device `c`'s cell `k`. -/
theorem duties_cell (c : Dev nD) (k : CK) : (rd m).duties (cell c k) 0 = cellDuties (some k) := by
  show (if (0 : ℕ) = 0 ∧ (cell c k).1.2 = .tc then cellDuties (ckOf (csem k)) else ∅) = _
  rw [if_pos ⟨rfl, rfl⟩, ckOf_csem]
theorem amount_cell (c : Dev nD) (k : CK) (d : Bool) : (rd m).amount (cell c k) 0 d = cellAmount (some k) := by
  show cellAmount (ckOf (csem k)) = _; rw [ckOf_csem]
theorem payload_cell (c : Dev nD) (k : CK) (d : Bool) : (rd m).payload (cell c k) 0 d = cellPay m c d (some k) := by
  show cellPay m c d (ckOf (csem k)) = _; rw [ckOf_csem]
/-- No cell has duties after round 0. -/
theorem duties_later (g : GSem nD τ sig) (r : ℕ) (hr : 1 ≤ r) : (rd m).duties g r = ∅ := if_neg fun h => by omega

/-- A barrier expects two units, a send or receive cell one slab's credit. -/
theorem expect_bar (c : Dev nD) : (rd m).expect (barC c) 0 = 2 := by
  unfold Schedule.expect Schedule.amountOf
  rw [duties_cell, Finset.sum_congr rfl fun d _ => amount_cell m c none d]; rfl
theorem expect_slab (c : Dev nD) (p : Bool × Fin 6) : (rd m).expect (cell c (some p)) 0 = N := by
  unfold Schedule.expect Schedule.amountOf
  rw [duties_cell, Finset.sum_congr rfl fun d _ => amount_cell m c (some p) d]
  exact Finset.sum_singleton _ _

/-- What a barrier's round hands over: both neighbours' slots. -/
theorem rest_bar (c : Dev nD) :
    bigSep ((rd m).duties (barC c) 0 \ ∅) (fun d => (rd m).payload (barC c) 0 d) = iprop(barPay (F := F) c false ∗ barPay c true) := by
  rw [Finset.sdiff_empty, duties_cell]
  show bigSep (Finset.univ : Finset Bool) _ = _
  rw [bigSep_univ_eq_bigSepL [false, true] (by decide) (by decide), bigSepL_cons_cons, bigSepL_singleton, payload_cell, payload_cell]
  rfl
/-- What a send or receive cell's round hands over. -/
theorem rest_slab (c : Dev nD) (p : Bool × Fin 6) :
    bigSep ((rd m).duties (cell c (some p)) 0 \ ∅) (fun d => (rd m).payload (cell c (some p)) 0 d) = cellPay m c false (some (some p)) := by
  rw [Finset.sdiff_empty, duties_cell]
  show bigSep ({false} : Finset Bool) _ = _
  rw [bigSep_singleton, payload_cell]

/-! ## What a device owes, and the levels -/

/-- What `c` still owes its neighbours' receive cells before transfer `n`. -/
def owe (c : Dev nD) (n : ℕ) : CellTallies nD τ sig Unit :=
  ∑ k ∈ Finset.univ.filter (fun k : Fin 6 => n ≤ k.val), tallyAt (recvC (peer k c) (land k)) () N

/-- Transfer `k` pays one slab's credit off. -/
theorem owe_step (c : Dev nD) (k : Fin 6) : owe c k.val = owe c (k.val + 1) + tallyAt (recvC (peer k c) (land k)) () N := by
  unfold owe
  have h : (Finset.univ.filter fun j : Fin 6 => k.val ≤ j.val) = insert k (Finset.univ.filter fun j : Fin 6 => k.val + 1 ≤ j.val) := by
    ext j; simp only [Finset.mem_filter, Finset.mem_univ, true_and, Finset.mem_insert, Fin.ext_iff]; omega
  rw [h, Finset.sum_insert (by simp), add_comm]

/-- After the six transfers nothing is owed. -/
theorem owe_six (c : Dev nD) : owe c 6 = 0 := by
  unfold owe
  rw [show (Finset.univ.filter fun j : Fin 6 => 6 ≤ j.val) = ∅ from by decide, Finset.sum_empty]

/-- What is owed is owed to receive cells of transfers still to come. -/
theorem owe_pos {c : Dev nD} {n : ℕ} {g : GSem nD τ sig} {u : Unit} (h : 0 < owe c n g u) :
    ∃ k : Fin 6, n ≤ k.val ∧ g = recvC (peer k c) (land k) := by
  by_contra hn
  refine absurd h (Nat.not_lt.mpr (Nat.le_of_eq ?_))
  unfold owe
  rw [Finset.sum_apply, Finsupp.finset_sum_apply]
  refine Finset.sum_eq_zero fun k hk => ?_
  rw [tallyAt_apply, if_neg fun h' => hn ⟨k, (Finset.mem_filter.mp hk).2, h'.1⟩]

/-- What a device owes at launch: its six slabs' credits, then the two barrier units, the left neighbour's paid first. -/
def O₀ (c : Dev nD) : CellTallies nD τ sig Unit := owe c 0 + tallyAt (barC (nxt c)) () 1 + tallyAt (barC (prv c)) () 1

/-- At launch a device owes its neighbours' receive and barrier cells only. -/
theorem O₀_pos {c : Dev nD} {g : GSem nD τ sig} {u : Unit} (h : 0 < O₀ c g u) :
    (∃ k : Fin 6, g = recvC (peer k c) (land k)) ∨ ∃ d, g = barC d := by
  unfold O₀ at h
  rw [Pi.add_apply, Finsupp.add_apply, Pi.add_apply, Finsupp.add_apply, tallyAt_apply, tallyAt_apply] at h
  by_cases h1 : 0 < owe c 0 g u
  · obtain ⟨k, -, hk⟩ := owe_pos h1; exact .inl ⟨k, hk⟩
  · by_contra hn
    rw [not_or] at hn
    rw [if_neg (fun h' => hn.2 ⟨_, h'.1⟩), if_neg (fun h' => hn.2 ⟨_, h'.1⟩)] at h
    exact h1 h

def L (g : GSem nD τ sig) : Finset Unit := if g.1.2 = .tc then {()} else ∅

/-- The level of a cell: a barrier below the receive cells, the first two of these below the rest. -/
def cellLv : Option CK → ℕ
  | some none => 1
  | some (some (true, j)) => if j.val < 2 then 2 else 3
  | _ => 0
def lv (g : GSem nD τ sig) (_ : Unit) : ℕ := cellLv (ckOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = cellLv (some k) := by
  show cellLv (ckOf (csem k)) = _; rw [ckOf_csem]

/-- A receive cell's level is positive. -/
theorem recv_lv_pos (j : Fin 6) : 0 < cellLv (some (some (true, j))) := by revert j; decide

omit [FloatOps F] in
/-- A device may wait at a cell that lies below every receive cell it still owes. -/
theorem mayWait_cell (c : Dev nD) (k : CK) (n : ℕ) (h : ∀ j : Fin 6, n ≤ j.val → cellLv (some k) < cellLv (some (some (true, land j)))) :
    (levAts L lv : sProp 𝕄) ⊢ MayWait (c : Thread nD τ) (csem k) () (owe c n) :=
  MayOwe.of_cut (L := L) (lev := lv) (cellLv (some k))
    (fun p hp => by rw [Finset.mem_singleton.mp hp, L_tc]; exact Finset.mem_singleton_self _)
    (fun g u hg => by obtain ⟨j, -, rfl⟩ := owe_pos hg; exact Finset.mem_singleton_self _)
    (fun p hp => by rw [Finset.mem_singleton.mp hp]; exact le_of_eq (lv_cell c k ()))
    (fun g u hg => by obtain ⟨j, hj, rfl⟩ := owe_pos hg; rw [lv_cell]; exact h j hj)

omit [FloatOps F] in
/-- A device may wait at a staging semaphore, at launch or owing nothing. -/
theorem mayWait_stage (c : Dev nD) (q : DmaSem sig) (hq : ckOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨k, rfl⟩ | ⟨d, rfl⟩ <;> exact Finset.mem_singleton_self _)
      (fun p hp => by rw [Finset.mem_singleton.mp hp]; show cellLv (ckOf (.dma q)) ≤ 0; rw [hq]; exact le_rfl)
      (fun g u hg => by
        rcases O₀_pos hg with ⟨k, rfl⟩ | ⟨d, rfl⟩
        · rw [lv_cell]; exact recv_lv_pos (land k)
        · rw [lv_cell]; exact Nat.one_pos)
  · rw [MayWait_zero]; iintro -; iempintro

/-! ## What a device starts from -/

/-- Every cell's invariant, at the names `K`, and that its round 0 is reached. -/
def known (K : Dev nD × CK → ℕ) : sProp 𝕄 :=
  bigSep (Finset.univ : Finset (Dev nD × CK)) fun ck => iprop(cellInv ER (rd m) (K ck) (cell ck.1 ck.2) ∗ reached ER (cell ck.1 ck.2) 0)

instance known_persistent (K : Dev nD × CK → ℕ) : BI.Persistent (known m K) := by unfold known; infer_instance

/-- One cell's invariant and mark. -/
theorem known_at (K : Dev nD × CK → ℕ) (c : Dev nD) (k : CK) :
    known m K ⊢ iprop(cellInv ER (rd m) (K (c, k)) (cell c k) ∗ reached ER (cell c k) 0) := by
  unfold known
  rw [bigSep_erase (Finset.mem_univ (c, k))]
  exact Laws.sep_elim_left

/-- What `c` holds for transfer `k`: the two duties' tokens and its position at the send cell. -/
def outKit (c : Dev nD) (k : Fin 6) : sProp 𝕄 :=
  iprop(dutyTok ER (sendC c k) 0 false ∗ dutyTok ER (recvC (peer k c) (land k)) 0 false ∗ atPos ER (sendC c k) 0 ∅ 0)
/-- The same once transfer `k` is on its way: the send cell's credit and the position. -/
def flying (c : Dev nD) (k : Fin 6) : sProp 𝕄 := iprop(cred (tallyAt (sendC c k) () N) ∗ atPos (ER (F := F)) (sendC c k) 0 ∅ 0)
/-- What `c` holds for receive slot `j`: the credit and its position. -/
def inKit (c : Dev nD) (j : Fin 6) : sProp 𝕄 := iprop(cred (tallyAt (recvC c j) () N) ∗ atPos (ER (F := F)) (recvC c j) 0 ∅ 0)
/-- What `c` holds of its barrier: both neighbours' tokens, the two units' credit and its position. -/
def barKit (c : Dev nD) : sProp 𝕄 :=
  iprop(dutyTok ER (barC (prv c)) 0 true ∗ dutyTok ER (barC (nxt c)) 0 false ∗ cred (tallyAt (barC c) () 2) ∗ atPos (ER (F := F)) (barC c) 0 ∅ 0)
/-- A cell whose round is over. -/
def over (c : Dev nD) (k : CK) : sProp 𝕄 := iprop(atPos (ER (F := F)) (cell c k) 1 ∅ 0)

/-- What device `c`'s body starts from. -/
def start (c : Dev nD) : sProp 𝕄 :=
  iprop((∃ K, known m K) ∗ levAts L lv ∗ barKit (F := F) c ∗ bigSep Finset.univ (outKit (F := F) c) ∗ bigSep Finset.univ (inKit (F := F) c))

end Cert.RS
-- ==== Proof.Steps.lean ====
/-
One step of the body at a time: a load and a store of a slot, a load of a row chunk, a transfer, a wait at a send cell,
a wait at a receive cell, for any slot.
-/
module

public import proofs.«01_k».proof.Proof.Sched

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Device `c` runs `p` to an end at which `Q` holds. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-- A whole buffer of `c` holds `f`. -/
abbrev full (c : Dev nD) (b : Ref sig .tc) (f : Buf (Elt F) ((c : Thread nD τ).loc b)) : sProp 𝕄 := (((c : Thread nD τ).loc b) ↦{fullShare} f)

/-- Device `c` owes what transfers from `n` on pay. -/
def debt (c : Dev nD) (n : ℕ) : sProp 𝕄 := iprop(∃ W, owes (c : Thread nD τ) (owe c n) W)

omit [FloatOps F] in
/-- A slab read of one slot and written to another, as transfers name them, is that slab. -/
theorem read_write_slot (M M' : Memref sig .tc .vmem S6x96x768 .bf16) (j k : Fin 6)
    (fd : (slotS M j).view.ty.Contents (Elt F)) (fs : (slotS M' k).view.ty.Contents (Elt F)) :
    (slotS M j).view.read (Elt F) ((slotM M j).view.write (Elt F) fd ((slotM M' k).view.read (Elt F) fs) Finset.univ)
      = (slotS M' k).view.read (Elt F) fs := by
  refine (congrArg ((slotS M j).view.read (Elt F)) (View.write_reshape_univ (v := (slotS M j).view) (s' := S96x768) rfl fd _)).trans ?_
  rw [View.read_write_univ]
  funext x
  exact congrArg ((slotS M' k).view.read (Elt F) fs) (Equiv.apply_symm_apply (Shape.reshapeEquiv _) x)

section Steps
variable {α : Type} (c : Dev nD)

/-- A finished program is at its end. -/
theorem step_ret {Q : α → sProp 𝕄} {a : α} : Q a ⊢ runs c (.ret a) Q := by
  unfold runs
  rw [wp_ret]
  iintro H; imodintro; iexact H

/-- A load of slot `k` reads what the slot holds. -/
theorem step_load (M : Memref sig .tc .vmem S6x96x768 .bf16) (k : Fin 6) (X : Vec F S1x96x768 .bf16) {hl : M.view.LoadsAt (slotR k).toLoadRect}
    {Q : α → sProp 𝕄} {p : ((slotR k).shape.Idx → Elt F .bf16) → Prog (TpuEff nD τ sig (Elt F) Λ₀ .tc) α} :
    has c M k X ⊢ iprop((has c M k X -∗ runs c (p X) Q) -∗ runs c (.op (.load M (slotR k).toLoadRect hl) p) Q) := by
  unfold has owns
  iintro ⟨%f, %hf, H⟩ Hk
  subst hf
  iapply (wp_load_rect 𝒱₀ (c : Thread nD τ) none Set.univ (m := M) (r := slotR k) Finset.Subset.rfl) $$ H
  iintro H
  iapply Hk
  iexists f; isplitr; · (ipureintro; rfl)
  iexact H

/-- A load of slot `k` of which nothing is known reads something. -/
theorem step_load_any (M : Memref sig .tc .vmem S6x96x768 .bf16) (k : Fin 6) {hl : M.view.LoadsAt (slotR k).toLoadRect}
    {Q : α → sProp 𝕄} {p : ((slotR k).shape.Idx → Elt F .bf16) → Prog (TpuEff nD τ sig (Elt F) Λ₀ .tc) α} :
    any c M k ⊢ iprop((∀ X, any c M k -∗ runs c (p X) Q) -∗ runs c (.op (.load M (slotR k).toLoadRect hl) p) Q) := by
  unfold any
  iintro ⟨%X, H⟩ Hk
  iapply (step_load c M k X) $$ H
  iintro H
  iapply Hk
  iexists X; iexact H

/-- A store to slot `k` leaves there what is stored. -/
theorem step_store (M : Memref sig .tc .vmem S6x96x768 .bf16) (k : Fin 6) (w : (slotR k).shape.Idx → Elt F .bf16)
    {hx : (M.access (slotR k)).Stores Finset.univ} {hm : (Finset.univ : Finset (slotR k).shape.Idx) = Finset.univ ∨ ∀ a, (slotR k).stride a = 1}
    {Q : α → sProp 𝕄} {p : PUnit → Prog (TpuEff nD τ sig (Elt F) Λ₀ .tc) α} :
    any c M k ⊢ iprop((has c M k w -∗ runs c (p ⟨⟩) Q) -∗ runs c (.op (.store M (slotR k) w Finset.univ hx hm) p) Q) := by
  unfold any has owns
  iintro ⟨%X, %f, %hf, H⟩ Hk
  iapply (wp_store 𝒱₀ (c : Thread nD τ) none Set.univ (m := M) (r := slotR k) (Mk := Finset.univ) (by rw [View.setOn_univ])) $$ H
  iintro H
  iapply Hk
  iexists (M.access (slotR k)).write (Elt F) f w Finset.univ; isplitr
  · ipureintro; exact View.read_write_univ _ _
  iexact H

/-- A load of 192 rows of the left operand at chunk `q`'s offsets reads chunk `q`. -/
theorem step_rows (X : Vec F S768x384 .bf16) (q : Dev nD) {off : Fin 2 → ℕ} {inb : ∀ a, off a + S192x384.size a ≤ S768x384.size a}
    (h : off = ![192 * q.val, 0]) {hl : aM.view.LoadsAt (Rect.unit (s := S768x384) off S192x384.size inb).toLoadRect}
    {Q : α → sProp 𝕄} {p : Vec F S192x384 .bf16 → Prog (TpuEff nD τ sig (Elt F) Λ₀ .tc) α} :
    full c cc0_stg0_0 X ⊢ iprop((full c cc0_stg0_0 X -∗ runs c (p (chunk X q)) Q)
      -∗ runs c (.op (.load aM (Rect.unit (s := S768x384) off S192x384.size inb).toLoadRect hl) p) Q) := by
  rw [← rowsAt_eq X q h inb]
  iintro H Hk
  iapply (wp_load 𝒱₀ (c : Thread nD τ) none Set.univ (m := aM) (Finset.subset_univ _)) $$ H
  iexact Hk

/-- Transfer `k`: the staged slab and the addressee's slot go, the send cell's credit comes, one slab less is owed. -/
theorem step_send (K : Dev nD × CK → ℕ) (k : Fin 6) (n : Dev nD) (hn : n = peer k c)
    {hsc : (slotM rcM (land k) : Memref sig (Dev.tc n : Thread nD τ).2.kind .vmem S96x768 .bf16).view.ref.isScScratch = false}
    {hsrc : (slotM stM k).view.WordExact} {hdst : (slotM rcM (land k)).view.WordExact}
    {hsem : DmaTarget.Typed .vmem (.dma (recvS (land k))) (.remote (Dev.tc n : Thread nD τ) (slotM rcM (land k)) (.dma (sendS k)) hsc)}
    {Q : α → sProp 𝕄} {p : PUnit → Prog (TpuEff nD τ sig (Elt F) Λ₀ .tc) α} :
    iprop(known m K ∗ outKit c k ∗ has c stM k (sent m c k) ∗ any (peer k c) rcM (land k) ∗ debt c k.val)
      ⊢ iprop(((flying c k ∗ debt c (k.val + 1)) -∗ runs c (p ⟨⟩) Q)
          -∗ runs c (.op (.enqueueDma (slotM stM k) (.remote (Dev.tc n : Thread nD τ) (slotM rcM (land k)) (.dma (sendS k)) hsc)
              (.dma (recvS (land k))) hsrc hdst hsem) p) Q) := by
  subst hn
  unfold outKit any has owns flying debt
  iintro ⟨#HK, ⟨Ht1, Ht2, Hat⟩, ⟨%fs, %hfs, Hs⟩, ⟨%X, %fd, %hfd, Hd⟩, ⟨%W, HO⟩⟩ Hk
  ihave #⟨HI1, HR1⟩ := (known_at m K c (some (false, k))) $$ HK
  ihave #⟨HI2, HR2⟩ := (known_at m K (peer k c) (some (true, land k))) $$ HK
  iapply (Rounds.wp_send_pointsTo 𝒱₀ ER (rd m) (c : Thread nD τ) none (c' := (peer k c : Thread nD τ))
      (src := slotM stM k) (dst := slotM rcM (land k)) (sS := .dma (sendS k)) (sem := .dma (recvS (land k)))
      (κ₁ := K (c, some (false, k))) (κ₂ := K (peer k c, some (true, land k)))
      (r₁ := 0) (r₂ := 0) (d₁ := false) (d₂ := false) (fs := fs) (fd := fd) (q := fullShare)
      (by rw [show (((c : Thread nD τ), SemLoc.dma (sendS k)) : GSem nD τ sig) = sendC c k from rfl, duties_cell]; exact Finset.mem_singleton_self _)
      (by rw [show (((peer k c : Dev nD) : Thread nD τ), SemLoc.dma (recvS (land k))) = recvC (peer k c) (land k) from rfl, duties_cell]; exact Finset.mem_singleton_self _)
      () () N (credit_rc (land k)) (amount_cell m c (some (false, k)) false) (amount_cell m (peer k c) (some (true, land k)) false)
      (owe c (k.val + 1)) (owe_step c k) (W := W)
      (by
        refine BI.Entails.trans ?_ (Entails.of_eq (payload_cell m c (some (false, k)) false).symm)
        show _ ⊢ any c stM k
        unfold any has owns
        iintro H
        iexists _; iexists fs; isplitr; · (ipureintro; rfl)
        rw [View.set_reshape]
        iexact H)
      (by
        refine BI.Entails.trans ?_ (Entails.of_eq (payload_cell m (peer k c) (some (true, land k)) false).symm)
        show _ ⊢ has (peer k c) rcM (land k) (landed m (peer k c) (land k))
        rw [landed_peer, ← hfs]
        unfold has owns
        iintro H
        iexists _; isplitr
        · ipureintro; exact read_write_slot rcM stM (land k) k fd fs
        rw [View.set_reshape]
        iexact H)) $$ [Hs Hd HO Ht1 Ht2]
  · isplitr; · iexact HI1
    isplitr; · iexact HI2
    isplitl [Hs]; · rw [View.set_reshape]; iexact Hs
    isplitl [Hd]; · rw [View.set_reshape]; iexact Hd
    isplitl [HO]; · iexact HO
    isplitl [Ht1]; · iexact Ht1
    isplitr; · iexact HR1
    isplitl [Ht2]; · iexact Ht2
    iexact HR2
  iintro ⟨Hc, HO⟩
  iapply Hk
  isplitr [HO]
  · isplitl [Hc]; · iexact Hc
    iexact Hat
  iexists W; iexact HO

/-- A wait for the one slab of a send or receive cell, at a point where the cell lies below all that is owed. -/
theorem step_wait (K : Dev nD × CK → ℕ) (b : Bool) (j : Fin 6) (n : ℕ)
    (hlv : ∀ i : Fin 6, n ≤ i.val → cellLv (some (some (b, j))) < cellLv (some (some (true, land i))))
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem (some (b, j))) N R)
    {Q : α → sProp 𝕄} {p : PUnit → Prog (TpuEff nD τ sig (Elt F) Λ₀ .tc) α} :
    iprop(known m K ∗ levAts L lv ∗ (cred (tallyAt (cell c (some (b, j))) () N) ∗ atPos (ER (F := F)) (cell c (some (b, j))) 0 ∅ 0)
        ∗ debt c n)
      ⊢ iprop(((over c (some (b, j)) ∗ cellPay m c false (some (some (b, j))) ∗ debt c n) -∗ runs c (p ⟨⟩) Q)
          -∗ runs c (.op w p) Q) := by
  unfold over debt
  iintro ⟨#HK, #Hlev, ⟨Hc, Hat⟩, ⟨%W, HO⟩⟩ Hk
  ihave #⟨HI, HR⟩ := (known_at m K c (some (b, j))) $$ HK
  iapply (Rounds.wp_wait_rest_token 𝒱₀ ER (rd m) (c : Thread nD τ) none (κ := K (c, some (b, j))) (sm := csem (some (b, j)))
      hw (Set.mem_univ _) () (O := owe c n) (W := W) (R := 0) (m := 0) (T := ∅)
      (by rw [Nat.zero_add]; exact (expect_slab m c (b, j)).symm)) $$ [Hc HO Hat]
  · isplitr; · iexact HI
    isplitl [Hc]; · iexact Hc
    isplitl [HO]; · iexact HO
    isplitr; · iapply (mayWait_cell c (some (b, j)) n hlv); iexact Hlev
    iexact Hat
  iintro ⟨HO, Hat, -, Hpay⟩
  ihave Hp := (Entails.of_eq (rest_slab m c (b, j))) $$ Hpay
  iapply Hk
  isplitl [Hat]; · iexact Hat
  isplitl [Hp]; · iexact Hp
  iexists _; iexact HO

/-- A wait at receive cell `j`: the landed slab comes. -/
theorem step_recv (K : Dev nD × CK → ℕ) (j : Fin 6) (n : ℕ)
    (hlv : ∀ i : Fin 6, n ≤ i.val → cellLv (some (some (true, j))) < cellLv (some (some (true, land i))))
    {src : Memref sig .tc .vmem S96x768 .bf16} {hsrc : src.view.WordExact} {hdst : (slotM rcM j).view.WordExact}
    {Q : α → sProp 𝕄} {p : PUnit → Prog (TpuEff nD τ sig (Elt F) Λ₀ .tc) α} :
    iprop(known m K ∗ levAts L lv ∗ inKit c j ∗ debt c n)
      ⊢ iprop(((over c (some (true, j)) ∗ has c rcM j (landed m c j) ∗ debt c n) -∗ runs c (p ⟨⟩) Q)
          -∗ runs c (.op (.waitDma2 (recvS j) src (slotM rcM j) hsrc hdst) p) Q) :=
  step_wait m c K true j n hlv (w := .waitDma2 (recvS j) src (slotM rcM j) hsrc hdst)
    (fun R => wpE_waitDma2_eq 𝒱₀ (c : Thread nD τ) none Set.univ R)

/-- A wait at send cell `k`, nothing being owed: the staging slot comes back. -/
theorem step_sent (K : Dev nD × CK → ℕ) (k : Fin 6)
    {src : Memref sig .tc .vmem S96x768 .bf16} {hsrc : src.view.WordExact} {hdst : (slotM stM k).view.WordExact}
    {Q : α → sProp 𝕄} {p : PUnit → Prog (TpuEff nD τ sig (Elt F) Λ₀ .tc) α} :
    iprop(known m K ∗ levAts L lv ∗ flying c k ∗ debt c 6)
      ⊢ iprop(((over c (some (false, k)) ∗ any c stM k ∗ debt c 6) -∗ runs c (p ⟨⟩) Q)
          -∗ runs c (.op (.waitDma2 (sendS k) src (slotM stM k) hsrc hdst) p) Q) :=
  step_wait m c K false k 6 (fun i hi => absurd i.isLt (Nat.not_lt.mpr hi)) (w := .waitDma2 (sendS k) src (slotM stM k) hsrc hdst)
    (fun R => wpE_waitDma2_eq 𝒱₀ (c : Thread nD τ) none Set.univ R)

end Steps

end Cert.RS
-- ==== Proof.PartsA.lean ====
/-
The first half of the body: the neighbours' handshake, the partial products, the first four transfers.
-/
module

public import proofs.«01_k».proof.Proof.Steps

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- `land` as a permutation of the slots. -/
def landEquiv : Fin 6 ≃ Fin 6 := ⟨land, land, land_land, land_land⟩

omit [FloatOps F] in
/-- All of `c`'s receive slots, as what `c`'s two signals hand over. -/
theorem give_bar (c : Dev nD) :
    bigSep Finset.univ (fun j => any (F := F) c rcM j) = iprop(barPay (F := F) (prv c) true ∗ barPay (nxt c) false) := by
  unfold barPay
  rw [show nbr true (prv c) = c from nxt_prv c, show nbr false (nxt c) = c from prv_nxt c, bigSep_univ_equiv landEquiv,
    bigSep_filter, bigSep_filter, ← bigSep_sep']
  refine bigSep_congr fun k _ => ?_
  show any c rcM (land k) = _
  cases right k
  · rw [if_neg (by decide), if_pos rfl]; exact (equiv_iff.mp emp_sep).symm
  · rw [if_pos rfl, if_neg (by decide)]; exact (equiv_iff.mp sep_emp).symm

omit [FloatOps F] in
/-- What `c` is handed at its barrier: the slots its six transfers land in. -/
theorem take_bar (c : Dev nD) :
    iprop(barPay (F := F) c false ∗ barPay c true) = bigSep Finset.univ (fun k => any (F := F) (peer k c) rcM (land k)) := by
  unfold barPay
  rw [bigSep_filter, bigSep_filter, ← bigSep_sep']
  refine bigSep_congr fun k _ => ?_
  unfold peer
  cases right k
  · rw [if_pos rfl, if_neg (by decide)]; exact equiv_iff.mp sep_emp
  · rw [if_neg (by decide), if_pos rfl]; exact equiv_iff.mp emp_sep

/-- A barrier duty's payload, at the cell as the signal names it. -/
theorem payload_bar (c : Dev nD) (d : Bool) : (rd m).payload ((c : Thread nD τ), SemLoc.reg barS) 0 d = barPay c d := payload_cell m c none d

/-- What `c`'s wait at its barrier yields, at the cell as the wait names it. -/
theorem take_rest (c : Dev nD) :
    bigSep ((rd m).duties ((c : Thread nD τ), SemLoc.reg barS) 0 \ ∅) (fun d => (rd m).payload ((c : Thread nD τ), SemLoc.reg barS) 0 d)
      ⊢ bigSep Finset.univ (fun k => any (F := F) (peer k c) rcM (land k)) :=
  Entails.of_eq ((rest_bar m c).trans (take_bar c))

omit [FloatOps F] in
/-- A six-fold `∗`, written out. -/
theorem six (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]
  simp only [bigSepL_cons_cons, bigSepL_singleton]
  rfl

section Parts
variable (K : Dev nD × CK → ℕ) (c : Dev nD)

omit [FloatOps F] in
theorem hz2 : (![0, 0] : Fin 2 → Nat) = fun _ => 0 := funext fun a => by fin_cases a <;> rfl

/-- Part 1: both neighbours are signalled, `c`'s receive slots going with the signals; the right block is loaded. -/
theorem part1_ok {Q : _ → sProp 𝕄} (W : Waits sig Unit) :
    iprop(known m K ∗ barKit c ∗ bigSep Finset.univ (fun j => any (F := F) c rcM j) ∗ owes (c : Thread nD τ) (O₀ c) W ∗ full c cc0_stg1_0 (bV m c)
        ∗ (∀ v2 v13 v24, (cred (tallyAt (barC c) () 2) ∗ atPos ER (barC c) 0 ∅ 0 ∗ debt c 0 ∗ full c cc0_stg1_0 (bV m c))
            -∗ Q ⟨c, v2, v13, v24, SemArray.scalar barS, k0_pay1 (bV m c), 2#32⟩))
      ⊢ runs c (k0_part1 aM (Memref.isWhole_whole _) bM (Memref.isWhole_whole _) oM (Memref.isWhole_whole _) stM (Memref.isWhole_whole _)
          ownM (Memref.isWhole_whole _) rcM (Memref.isWhole_whole _) cc0_scratch3 cc0_scratch4) Q := by
  rw [k0_part1_eq_skeleton, give_bar]; unfold k0_part1_skel barKit
  simp only [semSignalWord, Prog.lift, Prog.bind_op, Prog.bind_ret, Prog.pure_eq_ret, wp_deviceId]
  iintro ⟨#HK, ⟨HtP, HtN, Hc, Hat⟩, ⟨HpP, HpN⟩, HO, HB, Hk⟩
  ihave #⟨HIP, HRP⟩ := (known_at m K (prv c) none) $$ HK
  ihave #⟨HIN, HRN⟩ := (known_at m K (nxt c) none) $$ HK
  simp only [dev1_eq c, dev2_eq c]
  iapply (Rounds.wp_signal 𝒱₀ ER (rd m) (c : Thread nD τ) none (dst := (prv c : Thread nD τ)) (sem := barS) (κ := K (prv c, none)) (d := true) (r := 0)
      (by rw [show (((prv c : Dev nD) : Thread nD τ), SemLoc.reg barS) = barC (prv c) from rfl, duties_cell]; exact Finset.mem_univ _)
      ((amount_cell m (prv c) none true).trans (by decide)) () (owe c 0 + tallyAt (barC (nxt c)) () 1) rfl) $$ [HO HtP HpP]
  · isplitr; · iexact HIP
    isplitl [HO]; · iexact HO
    isplitl [HtP]; · iexact HtP
    isplitl [HpP]; · iapply (Entails.of_eq (payload_bar m (prv c) true).symm); iexact HpP
    iexact HRP
  iintro HO
  iapply (Rounds.wp_signal 𝒱₀ ER (rd m) (c : Thread nD τ) none (dst := (nxt c : Thread nD τ)) (sem := barS) (κ := K (nxt c, none)) (d := false) (r := 0)
      (by rw [show (((nxt c : Dev nD) : Thread nD τ), SemLoc.reg barS) = barC (nxt c) from rfl, duties_cell]; exact Finset.mem_univ _)
      ((amount_cell m (nxt c) none false).trans (by decide)) () (owe c 0) rfl) $$ [HO HtN HpN]
  · isplitr; · iexact HIN
    isplitl [HO]; · iexact HO
    isplitl [HtN]; · iexact HtN
    isplitl [HpN]; · iapply (Entails.of_eq (payload_bar m (nxt c) false).symm); iexact HpN
    iexact HRN
  iintro HO
  iapply (wp_load 𝒱₀ (c : Thread nD τ) none Set.univ (m := bM) (Finset.subset_univ _)) $$ HB; iintro HB
  rw [show bM.view.readAt (Elt F) (Rect.unit (s := S384x768) ![0, 0] S384x768.size inb_S384x768_S384x768_0_0).toLoadRect (bV m c) = bV m c from
    Memref.readAt_unit_zero (Elt F) cc0_stg1_0 hz2 _ _]
  iapply (step_ret c)
  iapply Hk
  isplitl [Hc]; · iexact Hc
  isplitl [Hat]; · iexact Hat
  isplitl [HO]; · unfold debt; iexists W; iexact HO
  iexact HB

/-- Part 2: the slabs 0 and 1 are staged; both neighbours' signals have come, their slots with them. -/
theorem part2_ok {Q : _ → sProp 𝕄} (v2 v13 : BitVec 32) :
    iprop(known m K ∗ levAts L lv ∗ full c cc0_stg0_0 (aV m c) ∗ any c stM 0 ∗ any c stM 1
        ∗ (cred (tallyAt (barC c) () 2) ∗ atPos ER (barC c) 0 ∅ 0) ∗ debt c 0
        ∗ ((full c cc0_stg0_0 (aV m c) ∗ has c stM 0 (sent m c 0) ∗ has c stM 1 (sent m c 1) ∗ over c none
            ∗ bigSep Finset.univ (fun k => any (F := F) (peer k c) rcM (land k)) ∗ debt c 0) -∗ Q ⟨⟩))
      ⊢ runs c (k0_part2 aM (Memref.isWhole_whole _) bM (Memref.isWhole_whole _) oM (Memref.isWhole_whole _) stM (Memref.isWhole_whole _)
          ownM (Memref.isWhole_whole _) rcM (Memref.isWhole_whole _) cc0_scratch3 cc0_scratch4 c v2 v13 (SemArray.scalar barS) (k0_pay1 (bV m c)) 2#32) Q := by
  rw [k0_part2_eq_skeleton]; unfold k0_part2_skel
  simp only [semWaitWord, Prog.lift, Prog.bind_op, Prog.bind_ret, Prog.pure_eq_ret]
  iintro ⟨#HK, #Hlev, HA, H0, H1, ⟨Hc, Hat⟩, HO, Hk⟩
  iapply (step_rows c (aV m c) (nxt (nxt c)) (off1_two c)) $$ HA; iintro HA
  iapply (step_load_any c stM 0) $$ H0; iintro %X0 H0
  iapply (step_store c stM 0 _) $$ H0; iintro H0
  iapply (step_load_any c stM 1) $$ H1; iintro %X1 H1
  iapply (step_store c stM 1 _) $$ H1; iintro H1
  unfold debt
  icases HO with ⟨%W, HO⟩
  ihave #⟨HI, HR⟩ := (known_at m K c none) $$ HK
  iapply (Rounds.wp_wait_rest_token 𝒱₀ ER (rd m) (c : Thread nD τ) none (κ := K (c, none)) (sm := SemLoc.reg barS)
      (wpE_semWait_eq 𝒱₀ (c : Thread nD τ) none Set.univ) (Set.mem_univ _) () (O := owe c 0) (W := W) (R := 0) (m := 0) (T := ∅)
      (by rw [show (((c : Thread nD τ), SemLoc.reg barS) : GSem nD τ sig) = barC c from rfl, expect_bar]; decide)) $$ [Hc HO Hat]
  · isplitr; · iexact HI
    isplitl [Hc]; · iexact Hc
    isplitl [HO]; · iexact HO
    isplitr; · iapply (mayWait_cell c none 0 (by decide)); iexact Hlev
    iexact Hat
  iintro ⟨HO, Hat, -, Hpay⟩
  ihave Hp := (take_rest m c) $$ Hpay
  iapply (step_ret c)
  iapply Hk
  isplitl [HA]; · iexact HA
  isplitl [H0]; · iexact H0
  isplitl [H1]; · iexact H1
  isplitl [Hat]; · unfold over; iexact Hat
  isplitl [Hp]; · iexact Hp
  iexists _; iexact HO

/-- Part 3: transfers 0 and 1 leave; the slabs 2 and 4 are staged. -/
theorem part3_ok {Q : _ → sProp 𝕄} (v24 : BitVec 32) :
    iprop(known m K ∗ full c cc0_stg0_0 (aV m c) ∗ has c stM 0 (sent m c 0) ∗ has c stM 1 (sent m c 1) ∗ any c stM 2 ∗ any c stM 4
        ∗ outKit c 0 ∗ outKit c 1 ∗ any (peer 0 c) rcM (land 0) ∗ any (peer 1 c) rcM (land 1) ∗ debt c 0
        ∗ ((full c cc0_stg0_0 (aV m c) ∗ flying c 0 ∗ flying c 1 ∗ has c stM 2 (sent m c 2) ∗ has c stM 4 (base m c 4) ∗ debt c 2) -∗ Q ⟨⟩))
      ⊢ runs c (k0_part3 aM (Memref.isWhole_whole _) bM (Memref.isWhole_whole _) oM (Memref.isWhole_whole _) stM (Memref.isWhole_whole _)
          ownM (Memref.isWhole_whole _) rcM (Memref.isWhole_whole _) cc0_scratch3 cc0_scratch4 c v24 (k0_pay1 (bV m c))) Q := by
  rw [k0_part3_eq_skeleton]; unfold k0_part3_skel
  simp only [Prog.lift, Prog.bind_op, Prog.bind_ret, Prog.pure_eq_ret]
  iintro ⟨#HK, HA, H0, H1, H2, H4, Hk0, Hk1, Hd0, Hd1, HO, Hk⟩
  iapply (step_send m c K 0 _ (dev3_eq c)) $$ [H0 Hk0 Hd0 HO]
  · isplitr; · iexact HK
    isplitl [Hk0]; · iexact Hk0
    isplitl [H0]; · iexact H0
    isplitl [Hd0]; · iexact Hd0
    iexact HO
  iintro ⟨Hf0, HO⟩
  iapply (step_send m c K 1 _ (dev4_eq c)) $$ [H1 Hk1 Hd1 HO]
  · isplitr; · iexact HK
    isplitl [Hk1]; · iexact Hk1
    isplitl [H1]; · iexact H1
    isplitl [Hd1]; · iexact Hd1
    iexact HO
  iintro ⟨Hf1, HO⟩
  iapply (step_rows c (aV m c) (nxt c) (off1_one c)) $$ HA; iintro HA
  iapply (step_load_any c stM 2) $$ H2; iintro %X2 H2
  iapply (step_store c stM 2 _) $$ H2; iintro H2
  iapply (step_load_any c stM 4) $$ H4; iintro %X4 H4
  iapply (step_store c stM 4 _) $$ H4; iintro H4
  iapply (step_ret c)
  iapply Hk
  isplitl [HA]; · iexact HA
  isplitl [Hf0]; · iexact Hf0
  isplitl [Hf1]; · iexact Hf1
  isplitl [H2]; · iexact H2
  isplitl [H4]; · iexact H4
  iexact HO

/-- Part 4: transfer 2 leaves; the slabs 5 and 3 are staged; transfer 3 leaves. -/
theorem part4_ok {Q : _ → sProp 𝕄} (v13 : BitVec 32) :
    iprop(known m K ∗ full c cc0_stg0_0 (aV m c) ∗ has c stM 2 (sent m c 2) ∗ any c stM 3 ∗ any c stM 5
        ∗ outKit c 2 ∗ outKit c 3 ∗ any (peer 2 c) rcM (land 2) ∗ any (peer 3 c) rcM (land 3) ∗ debt c 2
        ∗ ((full c cc0_stg0_0 (aV m c) ∗ flying c 2 ∗ flying c 3 ∗ has c stM 5 (base m c 5) ∗ debt c 4) -∗ Q 192#32))
      ⊢ runs c (k0_part4 aM (Memref.isWhole_whole _) bM (Memref.isWhole_whole _) oM (Memref.isWhole_whole _) stM (Memref.isWhole_whole _)
          ownM (Memref.isWhole_whole _) rcM (Memref.isWhole_whole _) cc0_scratch3 cc0_scratch4 c v13 (k0_pay1 (bV m c))) Q := by
  rw [k0_part4_eq_skeleton]; unfold k0_part4_skel
  simp only [Prog.lift, Prog.bind_op, Prog.bind_ret, Prog.pure_eq_ret]
  iintro ⟨#HK, HA, H2, H3, H5, Hk2, Hk3, Hd2, Hd3, HO, Hk⟩
  iapply (step_send m c K 2 _ (dev5_eq c)) $$ [H2 Hk2 Hd2 HO]
  · isplitr; · iexact HK
    isplitl [Hk2]; · iexact Hk2
    isplitl [H2]; · iexact H2
    isplitl [Hd2]; · iexact Hd2
    iexact HO
  iintro ⟨Hf2, HO⟩
  iapply (step_rows c (aV m c) (prv c) (off2_eq c)) $$ HA; iintro HA
  iapply (step_load_any c stM 5) $$ H5; iintro %X5 H5
  iapply (step_store c stM 5 _) $$ H5; iintro H5
  iapply (step_load_any c stM 3) $$ H3; iintro %X3 H3
  iapply (step_store c stM 3 _) $$ H3; iintro H3
  iapply (step_send m c K 3 _ (dev6_eq c)) $$ [H3 Hk3 Hd3 HO]
  · isplitr; · iexact HK
    isplitl [Hk3]; · iexact Hk3
    isplitl [H3]; · iexact H3
    isplitl [Hd3]; · iexact Hd3
    iexact HO
  iintro ⟨Hf3, HO⟩
  iapply (step_ret c)
  iapply Hk
  isplitl [HA]; · iexact HA
  isplitl [Hf2]; · iexact Hf2
  isplitl [Hf3]; · iexact Hf3
  isplitl [H5]; · iexact H5
  iexact HO

end Parts

end Cert.RS
-- ==== Proof.PartsB.lean ====
/-
The second half of the body: the slabs land and are added, the last two transfers, the result, the closing waits.
-/
module

public import proofs.«01_k».proof.Proof.PartsA

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The two halves cover the result: a row below 96 lies in the upper, any other in the lower. -/
theorem out_cover (i : S192x768.Idx) : (∃ x, i = (outR 1).emb x) ∨ (i ∉ (outR 1).set ∧ ∃ x, i = (outR 0).emb x) := by
  by_cases h : i ∈ (outR 1).set
  · obtain ⟨x, -, hx⟩ := Finset.mem_map.mp ((Rect.map_emb_univ (outR 1)).symm ▸ h)
    exact .inl ⟨x, hx.symm⟩
  · refine .inr ⟨h, ?_⟩
    have h0 : i ∈ (outR 0).set := by
      rw [Rect.mem_set_unit] at h ⊢
      have hi : (i 0).val < 192 := (i 0).isLt
      have hj : (i 1).val < 768 := (i 1).isLt
      rw [Fin.forall_fin_two] at h ⊢
      simp only [Matrix.cons_val_zero, Matrix.cons_val_one, Shape.size, Fin.val_one, Fin.val_zero] at h ⊢
      omega
    obtain ⟨x, -, hx⟩ := Finset.mem_map.mp ((Rect.map_emb_univ (outR 0)).symm ▸ h0)
    exact ⟨x, hx.symm⟩

/-- The two halves written, at an element of the lower half and at an element of the upper half. -/
theorem outOver_low (c : Dev nD) (f : Vec F S192x768 .bf16) (x : (outR 1).shape.Idx) : outOver m c f ((outR 1).emb x) = outHalf m c 1 x := by
  unfold outOver
  exact View.write_emb_of_mem (v := oM.access (outR 1)) _ _ (Finset.mem_univ x)
theorem outOver_up (c : Dev nD) (f : Vec F S192x768 .bf16) (x : (outR 0).shape.Idx) (h : (outR 0).emb x ∉ (outR 1).set) :
    outOver m c f ((outR 0).emb x) = outHalf m c 0 x := by
  unfold outOver
  rw [View.write_of_not_mem (v := oM.access (outR 1)) _ _ _ (by rw [View.setOn_univ, View.set_slice_whole]; exact h)]
  exact View.write_emb_of_mem (v := oM.access (outR 0)) _ _ (Finset.mem_univ x)

/-- Whatever the result buffer held, the two halves written leave the result. -/
theorem outOver_eq (c : Dev nD) (f : Vec F S192x768 .bf16) : outOver m c f = outV m c := by
  funext i
  unfold outV
  rcases out_cover i with ⟨x, rfl⟩ | ⟨h, x, rfl⟩
  · rw [outOver_low, outOver_low]
  · rw [outOver_up m c _ x h, outOver_up m c _ x h]

section Parts
variable (K : Dev nD × CK → ℕ) (c : Dev nD)

theorem hz3 : (![0, 0, 0] : Fin 3 → Nat) = fun _ => 0 := funext fun a => by fin_cases a <;> rfl

/-- A load of half `h` of the own partial product. -/
theorem step_own {α : Type} {Q : α → sProp 𝕄} (h : Fin 2) {hl : ownM.view.LoadsAt (halfR h).toLoadRect}
    {p : Vec F S1x96x768 .bf16 → Prog (TpuEff nD τ sig (Elt F) Λ₀ .tc) α} :
    full c cc0_scratch1 (ownV m c) ⊢ iprop((full c cc0_scratch1 (ownV m c) -∗ runs c (p (ownHalf m c h)) Q)
      -∗ runs c (.op (.load ownM (halfR h).toLoadRect hl) p) Q) := by
  unfold ownHalf
  iintro H Hk
  iapply (wp_load 𝒱₀ (c : Thread nD τ) none Set.univ (m := ownM) (Finset.subset_univ _)) $$ H
  iexact Hk

/-- The load of a half of the result buffer and the store of that half. -/
theorem step_out {α : Type} {Q : α → sProp 𝕄} (h : Fin 2) (g : Vec F S192x768 .bf16) (w : (outR h).shape.Idx → Elt F .bf16) {hl : oM.view.LoadsAt (outR h).toLoadRect}
    {hx : (oM.access (outR h)).Stores Finset.univ} {hm : (Finset.univ : Finset (outR h).shape.Idx) = Finset.univ ∨ ∀ a, (outR h).stride a = 1}
    {p : PUnit → Prog (TpuEff nD τ sig (Elt F) Λ₀ .tc) α} :
    full c cc0_stg2_0 g ⊢ iprop((full c cc0_stg2_0 ((oM.access (outR h)).write (Elt F) g w Finset.univ) -∗ runs c (p ⟨⟩) Q)
      -∗ runs c (.op (.load oM (outR h).toLoadRect hl) fun _ => .op (.store oM (outR h) w Finset.univ hx hm) p) Q) := by
  iintro H Hk
  iapply (wp_load 𝒱₀ (c : Thread nD τ) none Set.univ (m := oM) (Finset.subset_univ _)) $$ H
  iintro H
  iapply (wp_store 𝒱₀ (c : Thread nD τ) none Set.univ (m := oM) (r := outR h) (Mk := Finset.univ) (Finset.subset_univ _)) $$ H
  iexact Hk

/-- Part 5: the own partial product is stored; slot 0 has landed and is added to slab 4. -/
theorem part5_ok {Q : _ → sProp 𝕄} (v2 v13 w : BitVec 32) (f : Vec F S2x96x768 .bf16) :
    iprop(known m K ∗ levAts L lv ∗ full c cc0_stg0_0 (aV m c) ∗ full c cc0_scratch1 f ∗ has c stM 4 (base m c 4) ∗ inKit c 0 ∗ debt c 4
        ∗ ((full c cc0_stg0_0 (aV m c) ∗ full c cc0_scratch1 (ownV m c) ∗ has c stM 4 (sent m c 4)
            ∗ over c (some (true, 0)) ∗ has c rcM 0 (landed m c 0) ∗ debt c 4) -∗ Q ⟨⟩))
      ⊢ runs c (k0_part5 aM (Memref.isWhole_whole _) bM (Memref.isWhole_whole _) oM (Memref.isWhole_whole _) stM (Memref.isWhole_whole _)
          ownM (Memref.isWhole_whole _) rcM (Memref.isWhole_whole _) cc0_scratch3 cc0_scratch4 c v2 v13 (k0_pay1 (bV m c)) w) Q := by
  rw [k0_part5_eq_skeleton]; unfold k0_part5_skel
  simp only [Prog.lift, Prog.bind_op, Prog.bind_ret, Prog.pure_eq_ret]
  iintro ⟨#HK, #Hlev, HA, Hown, H4, Hin, HO, Hk⟩
  iapply (step_rows c (aV m c) c (k0_off3_eq c)) $$ HA; iintro HA
  iapply (wp_load 𝒱₀ (c : Thread nD τ) none Set.univ (m := ownM) (Finset.subset_univ _)) $$ Hown; iintro Hown
  iapply (wp_store 𝒱₀ (c : Thread nD τ) none Set.univ (m := ownM) (r := Rect.unit (s := S2x96x768) ![0, 0, 0] S2x96x768.size inb_S2x96x768_S2x96x768_0_0_0) (Mk := Finset.univ) (Finset.subset_univ _)) $$ Hown; iintro Hown
  rw [show ∀ w, (ownM.access (Rect.unit (s := S2x96x768) ![0, 0, 0] S2x96x768.size inb_S2x96x768_S2x96x768_0_0_0)).write (Elt F) f w Finset.univ = w from
    fun w => Memref.write_access_unit_zero_univ (Elt F) cc0_scratch1 hz3 _ _ _]
  iapply (step_recv m c K 0 4 (by decide)) $$ [Hin HO]
  · isplitr; · iexact HK
    isplitr; · iexact Hlev
    isplitl [Hin]; · iexact Hin
    iexact HO
  iintro ⟨Hov, Hr, HO⟩
  iapply (step_load c stM 4 _) $$ H4; iintro H4
  iapply (step_load c rcM 0 _) $$ Hr; iintro Hr
  iapply (step_load c stM 4 _) $$ H4; iintro H4
  iapply (step_store c stM 4 _) $$ [H4]; · unfold any; iexists _; iexact H4
  iintro H4
  iapply (step_ret c)
  iapply Hk
  isplitl [HA]; · iexact HA
  isplitl [Hown]; · iexact Hown
  isplitl [H4]; · iexact H4
  isplitl [Hov]; · iexact Hov
  isplitl [Hr]; · iexact Hr
  iexact HO

/-- Part 6: transfer 4 leaves; slot 1 has landed and is added to slab 5. -/
theorem part6_ok {Q : _ → sProp 𝕄} (v13 v24 : BitVec 32) :
    iprop(known m K ∗ levAts L lv ∗ has c stM 4 (sent m c 4) ∗ outKit c 4 ∗ any (peer 4 c) rcM (land 4) ∗ has c stM 5 (base m c 5) ∗ inKit c 1 ∗ debt c 4
        ∗ ((flying c 4 ∗ has c stM 5 (sent m c 5) ∗ over c (some (true, 1)) ∗ has c rcM 1 (landed m c 1) ∗ debt c 5) -∗ Q ⟨⟩))
      ⊢ runs c (k0_part6 aM (Memref.isWhole_whole _) bM (Memref.isWhole_whole _) oM (Memref.isWhole_whole _) stM (Memref.isWhole_whole _)
          ownM (Memref.isWhole_whole _) rcM (Memref.isWhole_whole _) cc0_scratch3 cc0_scratch4 c v13 v24) Q := by
  rw [k0_part6_eq_skeleton]; unfold k0_part6_skel
  simp only [Prog.lift, Prog.bind_op, Prog.bind_ret, Prog.pure_eq_ret]
  iintro ⟨#HK, #Hlev, H4, Hk4, Hd4, H5, Hin, HO, Hk⟩
  iapply (step_send m c K 4 _ (dev7_eq c)) $$ [H4 Hk4 Hd4 HO]
  · isplitr; · iexact HK
    isplitl [Hk4]; · iexact Hk4
    isplitl [H4]; · iexact H4
    isplitl [Hd4]; · iexact Hd4
    iexact HO
  iintro ⟨Hf4, HO⟩
  iapply (step_recv m c K 1 5 (by decide)) $$ [Hin HO]
  · isplitr; · iexact HK
    isplitr; · iexact Hlev
    isplitl [Hin]; · iexact Hin
    iexact HO
  iintro ⟨Hov, Hr, HO⟩
  iapply (step_load c stM 5 _) $$ H5; iintro H5
  iapply (step_load c rcM 1 _) $$ Hr; iintro Hr
  iapply (step_load c stM 5 _) $$ H5; iintro H5
  iapply (step_store c stM 5 _) $$ [H5]; · unfold any; iexists _; iexact H5
  iintro H5
  iapply (step_ret c)
  iapply Hk
  isplitl [Hf4]; · iexact Hf4
  isplitl [H5]; · iexact H5
  isplitl [Hov]; · iexact Hov
  isplitl [Hr]; · iexact Hr
  iexact HO

/-- Part 7: transfer 5 leaves; slots 2 and 4 have landed; the upper half of the own partial product is loaded. -/
theorem part7_ok {Q : _ → sProp 𝕄} (v13 : BitVec 32) :
    iprop(known m K ∗ levAts L lv ∗ has c stM 5 (sent m c 5) ∗ outKit c 5 ∗ any (peer 5 c) rcM (land 5) ∗ inKit c 2 ∗ inKit c 4 ∗ debt c 5
        ∗ full c cc0_scratch1 (ownV m c)
        ∗ ((flying c 5 ∗ over c (some (true, 2)) ∗ has c rcM 2 (landed m c 2) ∗ over c (some (true, 4)) ∗ has c rcM 4 (landed m c 4) ∗ debt c 6
            ∗ full c cc0_scratch1 (ownV m c)) -∗ Q (ownHalf m c 0)))
      ⊢ runs c (k0_part7 aM (Memref.isWhole_whole _) bM (Memref.isWhole_whole _) oM (Memref.isWhole_whole _) stM (Memref.isWhole_whole _)
          ownM (Memref.isWhole_whole _) rcM (Memref.isWhole_whole _) cc0_scratch3 cc0_scratch4 c v13) Q := by
  rw [k0_part7_eq_skeleton]; unfold k0_part7_skel
  simp only [Prog.lift, Prog.bind_op, Prog.bind_ret, Prog.pure_eq_ret]
  iintro ⟨#HK, #Hlev, H5, Hk5, Hd5, Hi2, Hi4, HO, Hown, Hk⟩
  iapply (step_send m c K 5 _ (dev8_eq c)) $$ [H5 Hk5 Hd5 HO]
  · isplitr; · iexact HK
    isplitl [Hk5]; · iexact Hk5
    isplitl [H5]; · iexact H5
    isplitl [Hd5]; · iexact Hd5
    iexact HO
  iintro ⟨Hf5, HO⟩
  iapply (step_recv m c K 2 6 (by decide)) $$ [Hi2 HO]
  · isplitr; · iexact HK
    isplitr; · iexact Hlev
    isplitl [Hi2]; · iexact Hi2
    iexact HO
  iintro ⟨Ho2, Hr2, HO⟩
  iapply (step_recv m c K 4 6 (by decide)) $$ [Hi4 HO]
  · isplitr; · iexact HK
    isplitr; · iexact Hlev
    isplitl [Hi4]; · iexact Hi4
    iexact HO
  iintro ⟨Ho4, Hr4, HO⟩
  iapply (step_own m c 0) $$ Hown; iintro Hown
  iapply (step_ret c)
  iapply Hk
  isplitl [Hf5]; · iexact Hf5
  isplitl [Ho2]; · iexact Ho2
  isplitl [Hr2]; · iexact Hr2
  isplitl [Ho4]; · iexact Ho4
  isplitl [Hr4]; · iexact Hr4
  isplitl [HO]; · iexact HO
  iexact Hown

/-- Part 8: the upper half of the result is stored; slots 3 and 5 have landed. -/
theorem part8_ok {Q : _ → sProp 𝕄} (v13 : BitVec 32) (g : Vec F S192x768 .bf16) :
    iprop(known m K ∗ levAts L lv ∗ has c rcM 2 (landed m c 2) ∗ has c rcM 4 (landed m c 4) ∗ full c cc0_stg2_0 g ∗ inKit c 3 ∗ inKit c 5 ∗ debt c 6
        ∗ ((has c rcM 2 (landed m c 2) ∗ has c rcM 4 (landed m c 4)
            ∗ full c cc0_stg2_0 ((oM.access (outR 0)).write (Elt F) g (outHalf m c 0) Finset.univ)
            ∗ over c (some (true, 3)) ∗ has c rcM 3 (landed m c 3) ∗ over c (some (true, 5)) ∗ has c rcM 5 (landed m c 5) ∗ debt c 6) -∗ Q ⟨⟩))
      ⊢ runs c (k0_part8 aM (Memref.isWhole_whole _) bM (Memref.isWhole_whole _) oM (Memref.isWhole_whole _) stM (Memref.isWhole_whole _)
          ownM (Memref.isWhole_whole _) rcM (Memref.isWhole_whole _) cc0_scratch3 cc0_scratch4 v13 (ownHalf m c 0)) Q := by
  rw [k0_part8_eq_skeleton]; unfold k0_part8_skel
  simp only [Prog.lift, Prog.bind_op, Prog.bind_ret, Prog.pure_eq_ret]
  iintro ⟨#HK, #Hlev, Hr2, Hr4, Hout, Hi3, Hi5, HO, Hk⟩
  iapply (step_load c rcM 2 _) $$ Hr2; iintro Hr2
  iapply (step_load c rcM 4 _) $$ Hr4; iintro Hr4
  iapply (step_out c 0 g _) $$ Hout; iintro Hout
  iapply (step_recv m c K 3 6 (by decide)) $$ [Hi3 HO]
  · isplitr; · iexact HK
    isplitr; · iexact Hlev
    isplitl [Hi3]; · iexact Hi3
    iexact HO
  iintro ⟨Ho3, Hr3, HO⟩
  iapply (step_recv m c K 5 6 (by decide)) $$ [Hi5 HO]
  · isplitr; · iexact HK
    isplitr; · iexact Hlev
    isplitl [Hi5]; · iexact Hi5
    iexact HO
  iintro ⟨Ho5, Hr5, HO⟩
  iapply (step_ret c)
  iapply Hk
  isplitl [Hr2]; · iexact Hr2
  isplitl [Hr4]; · iexact Hr4
  isplitl [Hout]; · iexact Hout
  isplitl [Ho3]; · iexact Ho3
  isplitl [Hr3]; · iexact Hr3
  isplitl [Ho5]; · iexact Ho5
  isplitl [Hr5]; · iexact Hr5
  iexact HO

/-- Part 9: the lower half of the result is stored; transfers 0 and 1 have left. -/
theorem part9_ok {Q : _ → sProp 𝕄} (g : Vec F S192x768 .bf16) :
    iprop(known m K ∗ levAts L lv ∗ has c rcM 3 (landed m c 3) ∗ has c rcM 5 (landed m c 5) ∗ full c cc0_scratch1 (ownV m c)
        ∗ full c cc0_stg2_0 ((oM.access (outR 0)).write (Elt F) g (outHalf m c 0) Finset.univ) ∗ flying c 0 ∗ flying c 1 ∗ debt c 6
        ∗ ((has c rcM 3 (landed m c 3) ∗ has c rcM 5 (landed m c 5) ∗ full c cc0_scratch1 (ownV m c) ∗ full c cc0_stg2_0 (outV m c)
            ∗ over c (some (false, 0)) ∗ any c stM 0 ∗ over c (some (false, 1)) ∗ any c stM 1 ∗ debt c 6) -∗ Q ⟨⟩))
      ⊢ runs c (k0_part9 aM (Memref.isWhole_whole _) bM (Memref.isWhole_whole _) oM (Memref.isWhole_whole _) stM (Memref.isWhole_whole _)
          ownM (Memref.isWhole_whole _) rcM (Memref.isWhole_whole _) cc0_scratch3 cc0_scratch4) Q := by
  rw [k0_part9_eq_skeleton, ← outOver_eq m c g]; unfold k0_part9_skel outOver
  simp only [Prog.lift, Prog.bind_op, Prog.bind_ret, Prog.pure_eq_ret]
  iintro ⟨#HK, #Hlev, Hr3, Hr5, Hown, Hout, Hf0, Hf1, HO, Hk⟩
  iapply (step_own m c 1) $$ Hown; iintro Hown
  iapply (step_load c rcM 3 _) $$ Hr3; iintro Hr3
  iapply (step_load c rcM 5 _) $$ Hr5; iintro Hr5
  iapply (step_out c 1 _ _) $$ Hout; iintro Hout
  iapply (step_sent m c K 0) $$ [Hf0 HO]
  · isplitr; · iexact HK
    isplitr; · iexact Hlev
    isplitl [Hf0]; · iexact Hf0
    iexact HO
  iintro ⟨Ho0, Hs0, HO⟩
  iapply (step_sent m c K 1) $$ [Hf1 HO]
  · isplitr; · iexact HK
    isplitr; · iexact Hlev
    isplitl [Hf1]; · iexact Hf1
    iexact HO
  iintro ⟨Ho1, Hs1, HO⟩
  iapply (step_ret c)
  iapply Hk
  isplitl [Hr3]; · iexact Hr3
  isplitl [Hr5]; · iexact Hr5
  isplitl [Hown]; · iexact Hown
  isplitl [Hout]; · iexact Hout
  isplitl [Ho0]; · iexact Ho0
  isplitl [Hs0]; · iexact Hs0
  isplitl [Ho1]; · iexact Ho1
  isplitl [Hs1]; · iexact Hs1
  iexact HO

/-- Part 10: the other transfers have left. -/
theorem part10_ok {Q : _ → sProp 𝕄} :
    iprop(known m K ∗ levAts L lv ∗ flying c 2 ∗ flying c 3 ∗ flying c 4 ∗ flying c 5 ∗ debt c 6
        ∗ ((over c (some (false, 2)) ∗ any c stM 2 ∗ over c (some (false, 3)) ∗ any c stM 3 ∗ over c (some (false, 4)) ∗ any c stM 4
            ∗ over c (some (false, 5)) ∗ any c stM 5 ∗ debt c 6) -∗ Q ⟨⟩))
      ⊢ runs c (k0_part10 aM (Memref.isWhole_whole _) bM (Memref.isWhole_whole _) oM (Memref.isWhole_whole _) stM (Memref.isWhole_whole _)
          ownM (Memref.isWhole_whole _) rcM (Memref.isWhole_whole _) cc0_scratch3 cc0_scratch4) Q := by
  rw [k0_part10_eq_skeleton]; unfold k0_part10_skel
  simp only [Prog.lift, Prog.bind_op, Prog.bind_ret, Prog.pure_eq_ret]
  iintro ⟨#HK, #Hlev, Hf2, Hf3, Hf4, Hf5, HO, Hk⟩
  iapply (step_sent m c K 2) $$ [Hf2 HO]
  · isplitr; · iexact HK
    isplitr; · iexact Hlev
    isplitl [Hf2]; · iexact Hf2
    iexact HO
  iintro ⟨Ho2, Hs2, HO⟩
  iapply (step_sent m c K 3) $$ [Hf3 HO]
  · isplitr; · iexact HK
    isplitr; · iexact Hlev
    isplitl [Hf3]; · iexact Hf3
    iexact HO
  iintro ⟨Ho3, Hs3, HO⟩
  iapply (step_sent m c K 4) $$ [Hf4 HO]
  · isplitr; · iexact HK
    isplitr; · iexact Hlev
    isplitl [Hf4]; · iexact Hf4
    iexact HO
  iintro ⟨Ho4, Hs4, HO⟩
  iapply (step_sent m c K 5) $$ [Hf5 HO]
  · isplitr; · iexact HK
    isplitr; · iexact Hlev
    isplitl [Hf5]; · iexact Hf5
    iexact HO
  iintro ⟨Ho5, Hs5, HO⟩
  iapply (step_ret c)
  iapply Hk
  isplitl [Ho2]; · iexact Ho2
  isplitl [Hs2]; · iexact Hs2
  isplitl [Ho3]; · iexact Ho3
  isplitl [Hs3]; · iexact Hs3
  isplitl [Ho4]; · iexact Ho4
  isplitl [Hs4]; · iexact Hs4
  isplitl [Ho5]; · iexact Ho5
  isplitl [Hs5]; · iexact Hs5
  iexact HO

end Parts

end Cert.RS
-- ==== Proof.Body.lean ====
/-
The kernel's body on one device, from what the launch hands it to what it leaves.
-/
module

public import proofs.«01_k».proof.Proof.PartsB
public import proofs.«01_k».proof.Proof.Gen.KernelIdeal.Points

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Splitting and joining the slots -/

omit [FloatOps F] in
/-- Each part entailing its counterpart, the product entails the product. -/
theorem each {I : Type} {s : Finset I} {Φ Ψ : I → sProp 𝕄} (h : ∀ i, Φ i ⊢ Ψ i) : bigSep s Φ ⊢ bigSep s Ψ :=
  bigSep_mono fun i _ => h i

omit [FloatOps F] in
/-- A six-slot buffer held whole is its six slots. -/
theorem split_slots (c : Dev nD) (M : Memref sig .tc .vmem S6x96x768 .bf16) (f : Buf (Elt F) (M.view.loc (c : Thread nD τ))) :
    (M.view.loc (c : Thread nD τ) ↦[M.view.set]{fullShare} f : sProp 𝕄) ⊢ bigSep Finset.univ fun k => any c M k := by
  rw [pointsTo_rects (c : Thread nD τ) M fullShare slotR (fun _ _ => rfl) slot_disjoint slot_cover f]
  refine each fun k => ?_
  unfold any has
  iintro H; iexists _; iexact H

/-- The six slots, whatever they hold, are the buffer whole. -/
theorem join_slots (c : Dev nD) (M : Memref sig .tc .vmem S6x96x768 .bf16) :
    (bigSep Finset.univ fun k => any c M k) ⊢ (iprop(∃ f, M.view.loc (c : Thread nD τ) ↦[M.view.set]{fullShare} f) : sProp 𝕄) := by
  have hset : M.view.set = (Finset.univ : Finset (Fin 6)).biUnion fun k => (slotS M k).view.set := by
    ext i
    simp only [Finset.mem_biUnion, Finset.mem_univ, true_and]
    have hs (k : Fin 6) : (slotS M k).view.set = (slotR k).set.map M.view.emb := View.set_slice _ _
    simp only [hs]
    constructor
    · intro hi
      obtain ⟨x, -, rfl⟩ := Finset.mem_map.mp hi
      obtain ⟨k, -, hx⟩ := Finset.mem_biUnion.mp (slot_cover.symm ▸ Finset.mem_univ x)
      exact ⟨k, Finset.mem_map_of_mem _ hx⟩
    · rintro ⟨k, hi⟩
      obtain ⟨x, -, rfl⟩ := Finset.mem_map.mp hi
      exact Finset.mem_map_of_mem _ (Finset.mem_univ _)
  have hd (k k' : Fin 6) (h : k ≠ k') : Disjoint (slotS M k).view.set (slotS M k').view.set := by
    show Disjoint (M.view.slice (slotR k)).set (M.view.slice (slotR k')).set
    rw [View.set_slice, View.set_slice]; exact (Finset.disjoint_map _).mpr (slot_disjoint k k' h)
  have hone (k : Fin 6) : (any c M k : sProp 𝕄) ⊢ iprop(∃ f : Buf (Elt F) (M.view.loc (c : Thread nD τ)), M.view.loc (c : Thread nD τ) ↦[(slotS M k).view.set]{fullShare} f) := by
    unfold any has owns
    iintro ⟨%X, %f, %hf, H⟩; iexists f; iexact H
  rw [hset]
  refine (each hone).trans ?_
  refine (bigSep_exists_pi (Y := fun _ : Fin 6 => Buf (Elt F) (M.view.loc (c : Thread nD τ))) _ _).trans ?_
  iintro ⟨%f, H⟩
  ihave H := (pointsTo_biUnion_join Finset.univ (fun k => (slotS M k).view.set) f (f 0) (fun k _ k' _ h => hd k k' h)) $$ H
  icases H with ⟨%g, -, H⟩
  iexists g; iexact H

omit [FloatOps F] in
/-- The staging buffer, whole, is its six slots. -/
theorem split_st (c : Dev nD) (f : Buf (Elt F) ((c : Thread nD τ).loc cc0_scratch0)) :
    full c cc0_scratch0 f ⊢ bigSep Finset.univ fun k => any c stM k := by
  have h := split_slots c stM f
  rw [show stM.view.set = Finset.univ from View.set_whole cc0_scratch0] at h
  exact h

omit [FloatOps F] in
/-- The landing buffer, whole, is its six slots. -/
theorem split_rc (c : Dev nD) (f : Buf (Elt F) ((c : Thread nD τ).loc cc0_scratch2)) :
    full c cc0_scratch2 f ⊢ bigSep Finset.univ fun k => any c rcM k := by
  have h := split_slots c rcM f
  rw [show rcM.view.set = Finset.univ from View.set_whole cc0_scratch2] at h
  exact h

/-- The staging buffer's six slots are the buffer. -/
theorem join_st (c : Dev nD) : (bigSep Finset.univ fun k => any (F := F) c stM k) ⊢ iprop(∃ f, full c cc0_scratch0 f) := by
  have h := join_slots (F := F) c stM
  rw [show stM.view.set = Finset.univ from View.set_whole cc0_scratch0] at h
  exact h

/-- The landing buffer's six slots are the buffer. -/
theorem join_rc (c : Dev nD) : (bigSep Finset.univ fun k => any (F := F) c rcM k) ⊢ iprop(∃ f, full c cc0_scratch2 f) := by
  have h := join_slots (F := F) c rcM
  rw [show rcM.view.set = Finset.univ from View.set_whole cc0_scratch2] at h
  exact h

/-! ## The cells of a device, by kind -/

omit [FloatOps F] in
/-- A product over a device's cells: the barrier's, then those of the transfers. -/
theorem bar_first (Φ : CK → sProp 𝕄) :
    bigSep Finset.univ Φ = iprop(Φ none ∗ bigSep Finset.univ fun p : Bool × Fin 6 => Φ (some p)) := by
  rw [bigSep_univ_split none, show (Finset.univ : Finset CK).erase none = Finset.univ.map Function.Embedding.some from by decide, bigSep_map]
  rfl

omit [FloatOps F] in
/-- A product over two choices and a type: the first's factors, then the second's. -/
theorem by_bool {I : Type} [Fintype I] (Φ : Bool × I → sProp 𝕄) :
    bigSep Finset.univ Φ = iprop((bigSep Finset.univ fun k => Φ (false, k)) ∗ bigSep Finset.univ fun j => Φ (true, j)) := by
  rw [bigSep_univ_prod, bigSep_univ_split false, show (Finset.univ : Finset Bool).erase false = {true} from by decide, bigSep_singleton]
  rfl

omit [FloatOps F] in
/-- A product over a device's cells: the barrier's, the departures', the arrivals'. -/
theorem kinds (Φ : CK → sProp 𝕄) : bigSep Finset.univ Φ
    = iprop(Φ none ∗ (bigSep Finset.univ fun k : Fin 6 => Φ (some (false, k))) ∗ bigSep Finset.univ fun j : Fin 6 => Φ (some (true, j))) := by
  rw [bar_first, by_bool]

omit [FloatOps F] in
/-- Each part, with a fact that stays, entailing its counterpart: the product with the fact entails the product. -/
theorem each_with {I : Type} [DecidableEq I] {s : Finset I} {P : sProp 𝕄} [BI.Persistent P] {Φ Ψ : I → sProp 𝕄}
    (h : ∀ i, iprop(P ∗ Φ i) ⊢ Ψ i) : iprop(P ∗ bigSep s Φ) ⊢ bigSep s Ψ := by
  refine BIBase.Entails.trans ?_ (each h)
  rw [bigSep_sep']
  iintro ⟨#HP, H⟩
  isplitr
  · iapply (bigSep_of_persistent s P); iexact HP
  · iexact H

/-- Every round of every cell of a device being over, its counters are back at zero. -/
theorem close_all (c : Dev nD) (K : Dev nD × CK → ℕ) :
    iprop(known m K ∗ bigSep Finset.univ (over c)) ⊢ (iprop(|={Set.univ}=> bigSep Finset.univ fun k => semVal (cell c k) 0) : sProp 𝕄) := by
  refine BIBase.Entails.trans (each_with fun k => ?_) (bigSep_fupd _ _)
  iintro ⟨#Hk, Hat⟩
  ihave H := (known_at m K c k) $$ Hk
  icases H with ⟨Hc, -⟩
  unfold over
  iapply (cell_close (ER (F := F)) (rd m) (Set.mem_univ (K (c, k))) not_false (R := 1) (duties_later m _))
  isplitl [Hc]; · iexact Hc
  iexact Hat

/-! ## The body -/

/-- A program followed by another. -/
theorem step_bind {α β : Type} (c : Dev nD) {p : Prog (TpuEff nD τ sig (Elt F) Λ₀ .tc) α} {k : α → Prog (TpuEff nD τ sig (Elt F) Λ₀ .tc) β} {Q : β → sProp 𝕄} :
    runs c p (fun a => runs c (k a) Q) ⊢ runs c (p >>= k) Q := by
  unfold runs
  rw [wp_bind]

/-- What the body leaves of its own buffers and counters. -/
def Φ₁ (c : Dev nD) : sProp 𝕄 :=
  iprop((∃ f, full (F := F) c cc0_scratch0 f) ∗ (∃ f, full (F := F) c cc0_scratch1 f) ∗ (∃ f, full (F := F) c cc0_scratch2 f)
    ∗ bigSep Finset.univ fun k : CK => semVal (cell c k) 0)

/-- What the body starts from. -/
def Φ₀ (c : Dev nD) : sProp 𝕄 :=
  iprop(start m c ∗ (∃ f, full (F := F) c cc0_scratch0 f) ∗ (∃ f, full (F := F) c cc0_scratch1 f) ∗ (∃ f, full (F := F) c cc0_scratch2 f))

/-- The body on device `c`: from the two staged inputs it leaves the output staged, its buffers whole, its counters at zero and nothing owed. -/
theorem body_ok (c : Dev nD) (W : Waits sig Unit) (g : Vec F S192x768 .bf16) {Q : PUnit → sProp 𝕄} :
    iprop(Φ₀ m c ∗ owes (c : Thread nD τ) (O₀ c) W ∗ full c cc0_stg0_0 (aV m c) ∗ full c cc0_stg1_0 (bV m c) ∗ full c cc0_stg2_0 g
        ∗ ((Φ₁ (F := F) c ∗ (∃ W', owes (c : Thread nD τ) 0 W') ∗ full c cc0_stg0_0 (aV m c) ∗ full c cc0_stg1_0 (bV m c) ∗ full c cc0_stg2_0 (outV m c)) -∗ Q ⟨⟩))
      ⊢ runs c (cc0_body aM (Memref.isWhole_whole _) bM (Memref.isWhole_whole _) oM (Memref.isWhole_whole _) stM (Memref.isWhole_whole _)
          ownM (Memref.isWhole_whole _) rcM (Memref.isWhole_whole _) cc0_scratch3 cc0_scratch4) Q := by
  rw [cc0_body_eq_skeleton]; unfold cc0_body_skel Φ₀ start
  rw [six (outKit c), six (inKit c)]
  iintro ⟨⟨⟨⟨%K, #HK⟩, #Hlev, Hbar, ⟨Hk0, Hk1, Hk2, Hk3, Hk4, Hk5⟩, Hi0, Hi1, Hi2, Hi3, Hi4, Hi5⟩, ⟨%f0, Hst⟩, ⟨%f1, Hown⟩, ⟨%f2, Hrc⟩⟩, HO, HA, HB, Hout, Hk⟩
  ihave Hst := (split_st c f0) $$ Hst
  ihave Hst := (Entails.of_eq (six fun k => any c stM k)) $$ Hst
  icases Hst with ⟨Hs0, Hs1, Hs2, Hs3, Hs4, Hs5⟩
  ihave Hrc := (split_rc c f2) $$ Hrc
  iapply (step_bind c)
  iapply (part1_ok m K c W)
  isplitr; · iexact HK
  isplitl [Hbar]; · iexact Hbar
  isplitl [Hrc]; · iexact Hrc
  isplitl [HO]; · iexact HO
  isplitl [HB]; · iexact HB
  iintro %v2 %v13 %v24
  iintro ⟨Hc, Hat, HO, HB⟩
  iapply (step_bind c)
  iapply (part2_ok m K c v2 v13)
  isplitr; · iexact HK
  isplitr; · iexact Hlev
  isplitl [HA]; · iexact HA
  isplitl [Hs0]; · iexact Hs0
  isplitl [Hs1]; · iexact Hs1
  isplitl [Hc Hat]
  · isplitl [Hc]; · iexact Hc
    iexact Hat
  isplitl [HO]; · iexact HO
  iintro ⟨HA, Hs0, Hs1, Hvb, Hd, HO⟩
  ihave Hd := (Entails.of_eq (six fun k => any (F := F) (peer k c) rcM (land k))) $$ Hd
  icases Hd with ⟨Hd0, Hd1, Hd2, Hd3, Hd4, Hd5⟩
  iapply (step_bind c)
  iapply (part3_ok m K c v24)
  isplitr; · iexact HK
  isplitl [HA]; · iexact HA
  isplitl [Hs0]; · iexact Hs0
  isplitl [Hs1]; · iexact Hs1
  isplitl [Hs2]; · iexact Hs2
  isplitl [Hs4]; · iexact Hs4
  isplitl [Hk0]; · iexact Hk0
  isplitl [Hk1]; · iexact Hk1
  isplitl [Hd0]; · iexact Hd0
  isplitl [Hd1]; · iexact Hd1
  isplitl [HO]; · iexact HO
  iintro ⟨HA, Hf0, Hf1, Hs2, Hs4, HO⟩
  iapply (step_bind c)
  iapply (part4_ok m K c v13)
  isplitr; · iexact HK
  isplitl [HA]; · iexact HA
  isplitl [Hs2]; · iexact Hs2
  isplitl [Hs3]; · iexact Hs3
  isplitl [Hs5]; · iexact Hs5
  isplitl [Hk2]; · iexact Hk2
  isplitl [Hk3]; · iexact Hk3
  isplitl [Hd2]; · iexact Hd2
  isplitl [Hd3]; · iexact Hd3
  isplitl [HO]; · iexact HO
  iintro ⟨HA, Hf2, Hf3, Hs5, HO⟩
  iapply (step_bind c)
  iapply (part5_ok m K c v2 v13 _ f1)
  isplitr; · iexact HK
  isplitr; · iexact Hlev
  isplitl [HA]; · iexact HA
  isplitl [Hown]; · iexact Hown
  isplitl [Hs4]; · iexact Hs4
  isplitl [Hi0]; · iexact Hi0
  isplitl [HO]; · iexact HO
  iintro ⟨HA, Hown, Hs4, Hvr0, Hr0, HO⟩
  iapply (step_bind c)
  iapply (part6_ok m K c v13 v24)
  isplitr; · iexact HK
  isplitr; · iexact Hlev
  isplitl [Hs4]; · iexact Hs4
  isplitl [Hk4]; · iexact Hk4
  isplitl [Hd4]; · iexact Hd4
  isplitl [Hs5]; · iexact Hs5
  isplitl [Hi1]; · iexact Hi1
  isplitl [HO]; · iexact HO
  iintro ⟨Hf4, Hs5, Hvr1, Hr1, HO⟩
  iapply (step_bind c)
  iapply (part7_ok m K c v13)
  isplitr; · iexact HK
  isplitr; · iexact Hlev
  isplitl [Hs5]; · iexact Hs5
  isplitl [Hk5]; · iexact Hk5
  isplitl [Hd5]; · iexact Hd5
  isplitl [Hi2]; · iexact Hi2
  isplitl [Hi4]; · iexact Hi4
  isplitl [HO]; · iexact HO
  isplitl [Hown]; · iexact Hown
  iintro ⟨Hf5, Hvr2, Hr2, Hvr4, Hr4, HO, Hown⟩
  iapply (step_bind c)
  iapply (part8_ok m K c v13 g)
  isplitr; · iexact HK
  isplitr; · iexact Hlev
  isplitl [Hr2]; · iexact Hr2
  isplitl [Hr4]; · iexact Hr4
  isplitl [Hout]; · iexact Hout
  isplitl [Hi3]; · iexact Hi3
  isplitl [Hi5]; · iexact Hi5
  isplitl [HO]; · iexact HO
  iintro ⟨Hr2, Hr4, Hout, Hvr3, Hr3, Hvr5, Hr5, HO⟩
  iapply (step_bind c)
  iapply (part9_ok m K c g)
  isplitr; · iexact HK
  isplitr; · iexact Hlev
  isplitl [Hr3]; · iexact Hr3
  isplitl [Hr5]; · iexact Hr5
  isplitl [Hown]; · iexact Hown
  isplitl [Hout]; · iexact Hout
  isplitl [Hf0]; · iexact Hf0
  isplitl [Hf1]; · iexact Hf1
  isplitl [HO]; · iexact HO
  iintro ⟨Hr3, Hr5, Hown, Hout, Hvs0, Hs0, Hvs1, Hs1, HO⟩
  iapply (step_bind c)
  iapply (part10_ok m K c)
  isplitr; · iexact HK
  isplitr; · iexact Hlev
  isplitl [Hf2]; · iexact Hf2
  isplitl [Hf3]; · iexact Hf3
  isplitl [Hf4]; · iexact Hf4
  isplitl [Hf5]; · iexact Hf5
  isplitl [HO]; · iexact HO
  iintro ⟨Hvs2, Hs2, Hvs3, Hs3, Hvs4, Hs4, Hvs5, Hs5, HO⟩
  ihave Hst := (join_st (F := F) c) $$ [Hs0 Hs1 Hs2 Hs3 Hs4 Hs5]
  · iapply (Entails.of_eq (six fun k => any (F := F) c stM k).symm)
    isplitl [Hs0]; · iexact Hs0
    isplitl [Hs1]; · iexact Hs1
    isplitl [Hs2]; · iexact Hs2
    isplitl [Hs3]; · iexact Hs3
    isplitl [Hs4]; · iexact Hs4
    iexact Hs5
  ihave Hrc := (join_rc (F := F) c) $$ [Hr0 Hr1 Hr2 Hr3 Hr4 Hr5]
  · iapply (Entails.of_eq (six fun k => any (F := F) c rcM k).symm)
    unfold any
    isplitl [Hr0]; · iexists _; iexact Hr0
    isplitl [Hr1]; · iexists _; iexact Hr1
    isplitl [Hr2]; · iexists _; iexact Hr2
    isplitl [Hr3]; · iexists _; iexact Hr3
    isplitl [Hr4]; · iexists _; iexact Hr4
    iexists _; iexact Hr5
  imod (close_all m c K) $$ [Hvb Hvs0 Hvs1 Hvs2 Hvs3 Hvs4 Hvs5 Hvr0 Hvr1 Hvr2 Hvr3 Hvr4 Hvr5] with Hz
  · isplitr; · iexact HK
    iapply (Entails.of_eq (kinds (over (F := F) c)).symm)
    isplitl [Hvb]; · iexact Hvb
    isplitl [Hvs0 Hvs1 Hvs2 Hvs3 Hvs4 Hvs5]
    · iapply (Entails.of_eq (six fun k => over (F := F) c (some (false, k))).symm)
      isplitl [Hvs0]; · iexact Hvs0
      isplitl [Hvs1]; · iexact Hvs1
      isplitl [Hvs2]; · iexact Hvs2
      isplitl [Hvs3]; · iexact Hvs3
      isplitl [Hvs4]; · iexact Hvs4
      iexact Hvs5
    · iapply (Entails.of_eq (six fun k => over (F := F) c (some (true, k))).symm)
      isplitl [Hvr0]; · iexact Hvr0
      isplitl [Hvr1]; · iexact Hvr1
      isplitl [Hvr2]; · iexact Hvr2
      isplitl [Hvr3]; · iexact Hvr3
      isplitl [Hvr4]; · iexact Hvr4
      iexact Hvr5
  iapply (step_ret c)
  iapply Hk
  unfold Φ₁ debt
  isplitl [Hst Hown Hrc Hz]
  · isplitl [Hst]; · iexact Hst
    isplitl [Hown]; · iexists _; iexact Hown
    isplitl [Hrc]; · iexact Hrc
    iexact Hz
  isplitl [HO]
  · rw [← owe_six c]; iexact HO
  isplitl [HA]; · iexact HA
  isplitl [HB]; · iexact HB
  iexact Hout

end Cert.RS
-- ==== Proof.Launch.lean ====
/-
The launch: every device runs the body, from any memory with zero counters, and the run ends with each window's array
at the contents the pipeline leaves there and every counter at zero.
-/
module

public import proofs.«01_k».proof.Proof.Body
public import Idealize.ShloMosaic.Lib.Pipeline.CollectiveSegs

@[expose] public section

noncomputable section

namespace Cert.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the windows hold -/

/-- Per window: its array at the launch, what the body leaves staged, what the body starts from and leaves, what it owes. -/
def dats (_ : Fin 1) (c : Dev nD) : Dat τ (Elt F) Unit ℕ UU ℕ cfg0 c where
  A w := m ((cfg0.win w).arr.view.loc (c : Thread nD τ))
  after w _ := match w with
    | ⟨0, _⟩ => aV m c
    | ⟨1, _⟩ => bV m c
    | ⟨2, _⟩ => outV m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A whole buffer of `c` holding exactly `X`. -/
abbrev holds (c : Dev nD) (b : Ref sig .tc) (X : b.ty.Contents (Elt F)) : sProp 𝕄 :=
  iprop(∃ f : Buf (Elt F) ((c : Thread nD τ).loc b), ⌜f = X⌝ ∗ full c b f)

/-- The body's starting state with its staged windows. -/
def before (c : Dev nD) : sProp 𝕄 :=
  iprop(Φ₀ m c ∗ (dats m 0 c).owesAt () t0_0.castSucc
    ∗ (∃ d, holds c cc0_stg0_0 ((dats m 0 c).before (0 : Fin 3) t0_0 d))
    ∗ (∃ d, holds c cc0_stg1_0 ((dats m 0 c).before (1 : Fin 3) t0_0 d))
    ∗ (∃ d, holds c cc0_stg2_0 ((dats m 0 c).before (2 : Fin 3) t0_0 d)))

/-- The body's final state with its staged windows. -/
def afterwards (c : Dev nD) : sProp 𝕄 :=
  iprop(Φ₁ (F := F) c ∗ (dats m 0 c).owesAt () t0_0.succ
    ∗ holds c cc0_stg0_0 (aV m c) ∗ holds c cc0_stg1_0 (bV m c) ∗ holds c cc0_stg2_0 (outV m c))

set_option maxRecDepth 4000 in
/-- The pipeline's obligation on the body of device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show before m c ⊢ runs c (cc0_body aM (Memref.isWhole_whole _) bM (Memref.isWhole_whole _) oM (Memref.isWhole_whole _) stM (Memref.isWhole_whole _)
          ownM (Memref.isWhole_whole _) rcM (Memref.isWhole_whole _) cc0_scratch3 cc0_scratch4) (fun _ => afterwards m c)
  unfold before
  iintro ⟨HΦ, Ho, ⟨%d0, %f0, %h0, HA⟩, ⟨%d1, %f1, %h1, HB⟩, ⟨%d2, %f2, %h2, Hout⟩⟩
  have e0 : f0 = aV m c := by rw [h0]; unfold Dat.before; rw [if_pos (fetch0_0 t0_0)]; rfl
  have e1 : f1 = bV m c := by rw [h1]; unfold Dat.before; rw [if_pos (fetch0_1 t0_0)]; rfl
  subst e0 e1
  unfold Dat.owesAt Pipeline.owesWithin
  icases Ho with ⟨%W, %hW, HO⟩
  rw [show (dats m 0 c).owed t0_0.castSucc = O₀ c from rfl]
  iapply (body_ok m c W f2)
  isplitl [HΦ]; · iexact HΦ
  isplitl [HO]; · iexact HO
  isplitl [HA]; · iexact HA
  isplitl [HB]; · iexact HB
  isplitl [Hout]; · iexact Hout
  iintro ⟨HΦ, ⟨%W', HO⟩, HA, HB, Hout⟩
  unfold afterwards Dat.owesAt Pipeline.owesWithin
  rw [show (dats m 0 c).owed t0_0.succ = 0 from rfl]
  isplitl [HΦ]; · iexact HΦ
  isplitl [HO]
  · iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Hout

/-! ## The cells and their tokens -/

/-- The transfers' semaphores are the kernel's own. -/
def osem (p : Bool × Fin 6) : SemLoc sig := csem (some p)

theorem ownSemFacts : Pipeline.OwnSemFacts cfg0.spec osem := by decide

theorem share_eq (c : Dev nD) (w : Fin cfg0.W) : (dats m 0 c).share w = fullShare := by unfold Dat.share; split <;> rfl

/-- All devices' cells. -/
def allCells : Finset (GSem nD τ sig) :=
  Finset.univ.map ⟨fun ck : Dev nD × CK => cell ck.1 ck.2, fun a b h => Prod.ext (cell_inj h).1 (cell_inj h).2⟩

/-- The tokens minted: two per cell, of which the transfers' cells use one. -/
def allToks : Finset (GSem nD τ sig × ℕ × Bool) :=
  Finset.univ.map ⟨fun x : Dev nD × CK × Bool => (cell x.1 x.2.1, 0, x.2.2), fun a b h => by
    have h1 := cell_inj (congrArg Prod.fst h)
    exact Prod.ext h1.1 (Prod.ext h1.2 (congrArg (fun y : GSem nD τ sig × ℕ × Bool => y.2.2) h))⟩

/-- The ghost element of the launch. -/
def u₀ : UU :=
  (initOf (Pipeline.cells cfgs cellOf_inj) (Pipeline.launchToks cfgs cellOf_inj), initOf allCells allToks)

/-- A duty's token at round 0 of a cell. -/
abbrev tok (g : GSem nD τ sig) (d : Bool) : sProp 𝕄 := dutyTok (ER (F := F)) g 0 d

/-- The tokens minted for the cells of `c`. -/
def minted (c : Dev nD) : sProp 𝕄 := bigSep Finset.univ fun x : CK × Bool => tok (F := F) (cell c x.1) x.2

/-- The positions of `c` at its own cells, with the marks that round 0 is reached. -/
def places (c : Dev nD) : sProp 𝕄 := bigSep Finset.univ fun k : CK => iprop(atPos (ER (F := F)) (cell c k) 0 ∅ 0 ∗ reached (ER (F := F)) (cell c k) 0)

/-- What the launch's ghost element deals device `c`. -/
def G (c : Dev nD) : sProp 𝕄 :=
  iprop((bigSep Finset.univ fun k : CK => roundState ER (rd m) (cell c k) 0) ∗ places (F := F) c ∗ minted (F := F) c)

/-- Minting the cells' states, positions and tokens, device by device. -/
theorem fund_all : BI.own ((ER (F := F)) (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok (ER (F := F)) x.1 x.2.1 x.2.2 : sProp 𝕄)) = bigSep Finset.univ fun c : Dev nD => minted (F := F) c := by
    unfold allToks; rw [bigSep_map, bigSep_univ_prod]; rfl
  iintro HX
  imod (Rounds.fund (ER (F := F)) (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat]; · iexact Hat
    iexact Hr
  iexact Htok

/-! ## Opening the invariants -/

omit [FloatOps F] in
/-- The barrier is the one semaphore that is nobody's own. -/
theorem unscoped_bar (c : Dev nD) : (unscopedSems0 c : sProp 𝕄) = semVal (barC c) 0 := by
  unfold unscopedSems0; rw [bigSep_eq_bigSepL_of_eq [SemLoc.reg barS] (by decide) (by decide)]; rfl

omit [FloatOps F] in
/-- The kernel's own semaphores are the transfers' cells. -/
theorem own_transfers (c : Dev nD) :
    (Pipeline.ownSems0 (Ix := Unit) (Name := ℕ) (U := UU) (Lvl := ℕ) (Val := Elt F) (τ := τ) osem c : sProp 𝕄)
      = bigSep Finset.univ fun p : Bool × Fin 6 => semVal (cell c (some p)) 0 := rfl

omit [FloatOps F] in
/-- The launch's semaphores of `c` are its cells. -/
theorem own_sems (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [bar_first, unscoped_bar, own_transfers]
  iintro ⟨H, HB⟩
  isplitl [HB]; · iexact HB
  iexact H

/-- One device's cells at zero with their states make its invariants. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (cell c k))) ∗ places (F := F) c ∗ minted (F := F) c) := by
  unfold G
  iintro ⟨Hos, Hus, Hst, Hat, Htok⟩
  ihave Hv := (own_sems (F := F) c) $$ [Hos Hus]
  · isplitl [Hos]; · iexact Hos
    iexact Hus
  imod (show iprop((bigSep Finset.univ fun k : CK => semVal (cell c k) 0) ∗ bigSep Finset.univ fun k : CK => roundState ER (rd m) (cell c k) 0)
      ⊢ (|={Set.univ}=> bigSep Finset.univ fun k => iprop(∃ κ : ℕ, cellInv ER (rd m) κ (cell c k)) : sProp 𝕄) from by
        rw [← bigSep_sep']
        exact (each fun k => (Rounds.body_intro ER (rd m) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## Dealing the tokens to those who pay -/

/-- The tokens device `c` pays with. -/
def paying (c : Dev nD) : sProp 𝕄 :=
  iprop(tok (F := F) (barC (prv c)) true ∗ tok (F := F) (barC (nxt c)) false ∗ (bigSep Finset.univ fun k => tok (F := F) (sendC c k) false)
    ∗ bigSep Finset.univ fun k => tok (F := F) (recvC (peer k c) (land k)) false)

omit [FloatOps F] in
/-- A product over the two choices. -/
theorem bools (Φ : Bool → sProp 𝕄) : bigSep Finset.univ Φ = iprop(Φ false ∗ Φ true) := by
  rw [bigSep_univ_split false, show (Finset.univ : Finset Bool).erase false = {true} from by decide, bigSep_singleton]
  rfl

omit [FloatOps F] in
/-- Of the tokens minted for `c`, those that are used. -/
theorem minted_used (c : Dev nD) : minted (F := F) c ⊢ iprop(tok (F := F) (barC c) true ∗ tok (F := F) (barC c) false
    ∗ (bigSep Finset.univ fun k => tok (F := F) (sendC c k) false) ∗ bigSep Finset.univ fun j => tok (F := F) (recvC c j) false) := by
  unfold minted
  rw [bigSep_univ_prod, kinds]
  simp only [bools, bigSep_sep']
  iintro ⟨⟨H0, H1⟩, ⟨H2, -⟩, H3, -⟩
  isplitl [H1]; · iexact H1
  isplitl [H0]; · iexact H0
  isplitl [H2]; · iexact H2
  iexact H3

omit [FloatOps F] in
/-- A product over two types, the other way around. -/
theorem swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I), bigSep_univ_prod]
  rfl

/-- Going to a neighbour, as a permutation of the devices. -/
def nbrE (b : Bool) : Dev nD ≃ Dev nD := ⟨nbr b, nbr (!b), nbr_nbr b, fun c => by revert b c; decide⟩

omit [FloatOps F] in
/-- Every device's tokens, dealt to the devices that pay them. -/
theorem dealt : (bigSep Finset.univ fun c : Dev nD => minted (F := F) c) ⊢ bigSep Finset.univ fun c : Dev nD => paying (F := F) c := by
  refine (each minted_used).trans ?_
  unfold paying
  simp only [bigSep_sep']
  rw [bigSep_univ_equiv ring.symm (fun c : Dev nD => tok (F := F) (barC c) true),
    bigSep_univ_equiv ring (fun c : Dev nD => tok (F := F) (barC c) false)]
  rw [swap (fun (c : Dev nD) (j : Fin 6) => tok (F := F) (recvC c j) false),
    swap (fun (c : Dev nD) (k : Fin 6) => tok (F := F) (recvC (peer k c) (land k)) false),
    bigSep_univ_equiv landEquiv (fun j : Fin 6 => bigSep Finset.univ fun c : Dev nD => tok (F := F) (recvC c j) false),
    bigSep_congr (s := Finset.univ) (fun (k : Fin 6) _ => bigSep_univ_equiv (nbrE (right k)) (fun c : Dev nD => tok (F := F) (recvC c (landEquiv k)) false))]
  exact BIBase.Entails.rfl

/-- What device `c` is dealt: the names, its positions, the tokens it pays with. -/
def G' (c : Dev nD) : sProp 𝕄 :=
  iprop((∃ K, known m K) ∗ (bigSep Finset.univ fun k : CK => atPos (ER (F := F)) (cell c k) 0 ∅ 0) ∗ paying (F := F) c)

/-- The devices' invariants, positions and tokens, dealt. -/
theorem regroup :
    (bigSep Finset.univ fun c : Dev nD => iprop((bigSep Finset.univ fun k => iprop(∃ κ : ℕ, cellInv ER (rd m) κ (cell c k))) ∗ places (F := F) c ∗ minted (F := F) c) : sProp 𝕄)
      ⊢ bigSep Finset.univ (G' m) := by
  unfold places
  simp only [bigSep_sep']
  rw [← bigSep_univ_prod (fun ck : Dev nD × CK => iprop(∃ κ : ℕ, cellInv ER (rd m) κ (cell ck.1 ck.2))),
    ← bigSep_univ_prod (fun ck : Dev nD × CK => (reached (ER (F := F)) (cell ck.1 ck.2) 0 : sProp 𝕄))]
  iintro ⟨HI, ⟨Hat, HR⟩, Htok⟩
  ihave HK := (bigSep_exists_pi Finset.univ (fun (ck : Dev nD × CK) (κ : ℕ) => (cellInv ER (rd m) κ (cell ck.1 ck.2) : sProp 𝕄))) $$ HI
  icases HK with ⟨%K, HI⟩
  ihave Htok := (dealt (F := F)) $$ Htok
  ihave HK := (show iprop((bigSep Finset.univ fun ck : Dev nD × CK => cellInv ER (rd m) (K ck) (cell ck.1 ck.2))
      ∗ bigSep Finset.univ fun ck : Dev nD × CK => reached (ER (F := F)) (cell ck.1 ck.2) 0) ⊢ known m K from by
        unfold known; rw [bigSep_sep']) $$ [HI HR]
  · isplitl [HI]; · iexact HI
    iexact HR
  iapply (each_with (P := known m K) (Φ := fun c : Dev nD => iprop((bigSep Finset.univ fun k : CK => atPos (ER (F := F)) (cell c k) 0 ∅ 0) ∗ paying (F := F) c)) fun c => by
    unfold G'
    iintro ⟨HK, H⟩
    isplitl [HK]; · iexists K; iexact HK
    iexact H)
  isplitl [HK]; · iexact HK
  rw [bigSep_sep']
  isplitl [Hat]; · iexact Hat
  iexact Htok

/-- From every device's semaphores and dealt ghost state, the invariants opened and everything dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((each fun c => open_cells m c).trans (bigSep_fupd _ _)).trans (BI.fupd_mono (regroup m))

/-! ## The launch's credit -/

omit [FloatOps F] in
/-- A cell's credit is the sum of what the devices owe it. -/
theorem credit_cell (c : Dev nD) (k : CK) :
    tallyOn (cell c k) (launchCredit (Pipeline.owing O₀) 0 (cell c k)) = (tallyAt (cell c k) () (∑ d, O₀ d (cell c k) ()) : CellTallies nD τ sig Unit) := by
  unfold tallyAt; refine congrArg _ (Finsupp.ext fun u => ?_); cases u
  rw [Pipeline.launchCredit_owing, Finsupp.single_eq_same]

/-- What device `d` owes a cell, written out. -/
theorem owed_cell (d c : Dev nD) (k : CK) : O₀ d (cell c k) ()
    = ((∑ i : Fin 6, if c = peer i d ∧ k = some (true, land i) then 1 else 0) * N + (if c = nxt d ∧ k = none then 1 else 0))
      + (if c = prv d ∧ k = none then 1 else 0) := by
  have hc (c c' : Dev nD) (k k' : CK) : cell c k = cell c' k' ↔ (c = c' ∧ k = k') :=
    ⟨cell_inj, fun h => by rw [h.1, h.2]⟩
  unfold O₀ owe
  rw [Pi.add_apply, Finsupp.add_apply, Pi.add_apply, Finsupp.add_apply, Finset.sum_apply, Finsupp.finset_sum_apply]
  simp only [tallyAt_apply, hc, and_true, Nat.zero_le, Finset.filter_true, Finset.sum_mul, ite_mul, one_mul, zero_mul]

/-- Both neighbours owe a barrier a unit. -/
theorem owed_bar (c : Dev nD) : (∑ d, O₀ d (barC c) ()) = 2 := by
  simp only [owed_cell, reduceCtorEq, and_false, if_false, Finset.sum_const_zero, zero_mul, zero_add]
  revert c; decide +kernel

/-- One device owes a receive cell its slab's credit. -/
theorem owed_recv (c : Dev nD) (j : Fin 6) : (∑ d, O₀ d (recvC c j) ()) = N := by
  have h : (∑ d : Dev nD, ∑ i : Fin 6, if c = peer i d ∧ (some (true, j) : CK) = some (true, land i) then 1 else 0) = 1 := by
    revert c j; decide +kernel
  simp only [owed_cell, reduceCtorEq, and_false, if_false, add_zero]
  rw [← Finset.sum_mul, h, one_mul]

omit [FloatOps F] in
/-- The credit of device `c`: two units of its barrier, a slab's at each receive cell. -/
theorem creds (c : Dev nD) :
    (Pipeline.launchCred O₀ c : sProp 𝕄) ⊢ iprop(cred (tallyAt (barC c) () 2) ∗ bigSep Finset.univ fun j => cred (tallyAt (recvC c j) () N)) := by
  unfold Pipeline.launchCred
  refine (bigSep_subset (Finset.subset_univ (Finset.univ.map ⟨csem, csem_inj⟩))).trans ?_
  rw [bigSep_map, kinds]
  show iprop(cred (tallyOn (cell c none) (launchCredit (Pipeline.owing O₀) 0 (cell c none)))
    ∗ _ ∗ bigSep Finset.univ fun j => cred (tallyOn (cell c (some (true, j))) (launchCredit (Pipeline.owing O₀) 0 (cell c (some (true, j)))))) ⊢ _
  simp only [credit_cell, owed_bar, owed_recv]
  iintro ⟨H1, -, H2⟩
  isplitl [H1]; · iexact H1
  iexact H2

/-! ## The theorem's side conditions -/

/-- What a device is dealt and its credit are what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' paying
  rw [kinds]
  iintro ⟨-, Hlev, Hcr, -, HK, ⟨Ha0, Ha1, Ha2⟩, Ht0, Ht1, Ht2, Ht3⟩
  ihave Hc := (creds (F := F) c) $$ Hcr
  icases Hc with ⟨H1, HN⟩
  imodintro
  unfold start barKit outKit inKit
  simp only [bigSep_sep']
  isplitl
  · isplitl [HK]; · iexact HK
    isplitl [Hlev]; · iexact Hlev
    isplitl [Ht0 Ht1 H1 Ha0]
    · isplitl [Ht0]; · iexact Ht0
      isplitl [Ht1]; · iexact Ht1
      isplitl [H1]; · iexact H1
      iexact Ha0
    isplitl [Ht2 Ht3 Ha1]
    · isplitl [Ht2]; · iexact Ht2
      isplitl [Ht3]; · iexact Ht3
      iexact Ha1
    isplitl [HN]; · iexact HN
    iexact Ha2
  · iempintro

/-- With its scratch buffers that is the body's starting state. -/
theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H⟩
  isplitl [Hs]; · iexact Hs
  iexact H

/-- The body's final state gives the semaphores and the scratch buffers back. -/
theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ (F := F) c from rfl, scopedRest0_eq, unscoped_bar, own_transfers]
  unfold Φ₁
  rw [bar_first]
  iintro ⟨H0, H1, H2, HB, HS⟩
  isplitl [HB]; · iexact HB
  isplitl [HS]; · iexact HS
  isplitl [H0]; · iexact H0
  isplitl [H1]; · iexact H1
  iexact H2

/-- The staging semaphores' waits are allowed before and after the body. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What each window's array holds after the run. -/
def finalA (c : Dev nD) (w : Fin cfg0.W) : Buf (Elt F) ((cfg0.win w).arr.view.loc (c : Thread nD τ)) := (dats m 0 c).arrAt w cfg0.N

/-- Every array of every device as the pipeline leaves it. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with zero counters every execution of the four devices ends, with the arrays as computed and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

variable {m}

/-- The run leaves the left operand's blocks as they were. -/
theorem kept_left {r} (h : QC (F := F) m r) (c : Dev nD) :
    r.2.mem ((c.tc : Thread nD τ).loc main_arg0) = m ((c.tc : Thread nD τ).loc main_arg0) :=
  (h c 0).trans ((dats m 0 c).arrAt_in (0 : Fin 3) rfl _)

/-- The run leaves the right operand's blocks as they were. -/
theorem kept_right {r} (h : QC (F := F) m r) (c : Dev nD) :
    r.2.mem ((c.tc : Thread nD τ).loc main_arg1) = m ((c.tc : Thread nD τ).loc main_arg1) :=
  (h c 1).trans ((dats m 0 c).arrAt_in (1 : Fin 3) rfl _)

variable (m)

/-- Every run ends with both arguments unchanged and every counter at zero. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨kept_left h.1 c, kept_right h.1 c⟩, h.2⟩) (run_main m ρ)

end Cert.RS
-- ==== Proof.Value.lean ====
/-
The value: with floats as extended reals, each device's result is its 192 rows of the product of the whole matrices.
-/
module

public import proofs.«01_k».proof.Proof.Launch
public import Idealize.ShloMosaic.Lib.MatmulPlain
public import Idealize.ShloMosaic.Lib.StackMember
public import Idealize.ShloMosaic.Lib.Pipeline.Value
public import Idealize.ShloMosaic.Lib.Layout
public import Mathlib.Tactic.Abel
public import Mathlib.Algebra.BigOperators.Fin

@[expose] public section

noncomputable section

namespace Cert.RS

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-! ## The partial products -/

/-- Row `i` of row chunk `q`, as a row of the whole. -/
def rowOf (q : Dev nD) (i : Fin 192) : Fin 768 := ⟨192 * q.val + i.val, by have := q.isLt; have := i.isLt; simp only [nD] at *; omega⟩

/-- Row `r` of half `h` of a row chunk. -/
def inHalf (h : Fin 2) (r : Fin 96) : Fin 192 := ⟨96 * h.val + r.val, by omega⟩

/-- Element `(i, j)` of row chunk `q` of the product of device `d`'s two blocks. -/
def part (d q : Dev nD) (i : Fin 192) (j : Fin 768) : EReal :=
  ∑ k : Fin 384, aV m d (ix2 (rowOf q i) k) * bV m d (ix2 k j)

/-- An element of a row chunk is an element of the matrix. -/
theorem chunk_at (X : Vec Ideal S768x384 .bf16) (q : Dev nD) (i : Fin 192) (k : Fin 384) :
    chunk X q (ix2 i k) = X (ix2 (rowOf q i) k) := by
  refine congrArg X (Shape.idx_ext₂ ?_ ?_)
  · show 192 * q.val + 1 * i.val = 192 * q.val + i.val
    omega
  · show 0 + 1 * k.val = k.val
    omega

/-- The product the payloads are cut from, at an element. -/
theorem prod_at (d q : Dev nD) (i : Fin 192) (j : Fin 768) :
    k0_pay2 (k0_pay1 (bV m d)) (chunk (aV m d) q) (ix2 i j) = part m d q i j := by
  refine (Ideal.matmul_plain_apply (M := 192) (K := 384) (N := 768) none _ _ _ i j).trans ?_
  rw [show (constant S192x768 .f32 0x00000000#32 : FVec Ideal S192x768 .f32) (ix2 i j) = 0 from Ideal.ofBits_zero_f32, zero_add]
  unfold part k0_pay1
  simp only [shapeCast_self]
  exact Finset.sum_congr rfl fun k _ => by rw [chunk_at]

/-- A matrix of 96 rows cast to a slab, at an element. -/
theorem slab_at (v : Vec Ideal S96x768 .bf16) (r : Fin 96) (j : Fin 768) (h) :
    shapeCast S1x96x768 v h (ix3 (0 : Fin 1) r j) = v (ix2 r j) :=
  (shapeCast_addUnit_apply ![96, 768] v h _).trans (congrArg v (Shape.idx_ext₂ rfl rfl))

/-- A slab cast to a matrix of 96 rows, at an element. -/
theorem flat_at (v : Vec Ideal S1x96x768 .bf16) (r : Fin 96) (j : Fin 768) (h) :
    shapeCast S96x768 v h (ix2 r j) = v (ix3 (0 : Fin 1) r j) :=
  (shapeCast_dropUnit_apply ![96, 768] v h _).trans (congrArg v (funext fun a => Fin.ext <| match a with
    | ⟨0, _⟩ => rfl | ⟨1, _⟩ => rfl | ⟨2, _⟩ => rfl))

/-- Half `h` of a row chunk's product cut out and cast to a slab, at an element. -/
theorem cut_at (d q : Dev nD) (h : Fin 2) (r : Fin 96) (j : Fin 768) (hs) (hc) :
    shapeCast S1x96x768 (extractStridedSlice S96x768 ![96 * h.val, 0] (k0_pay2 (k0_pay1 (bV m d)) (chunk (aV m d) q)) hs) hc
      (ix3 (0 : Fin 1) r j) = part m d q (inHalf h r) j := by
  rw [slab_at, extractStridedSlice_apply _ _ _ _ (ix2 (inHalf h r) j) (fun a => match a with
    | ⟨0, _⟩ => rfl | ⟨1, _⟩ => (Nat.zero_add _).symm), prod_at]

/-- The row chunk slab `k` of `c` is cut from. -/
def aim (c : Dev nD) (k : Fin 6) : Dev nD := match k with
  | 0 | 1 => nxt (nxt c)
  | 2 | 4 => nxt c
  | 3 | 5 => prv c
/-- The half slab `k` is cut from. -/
def side (k : Fin 6) : Fin 2 := match k with
  | 0 | 2 | 5 => 0
  | 1 | 3 | 4 => 1

/-- Every slab a device computes, at an element. -/
theorem base_at (c : Dev nD) (k : Fin 6) (r : Fin 96) (j : Fin 768) :
    base m c k (ix3 (0 : Fin 1) r j) = part m c (aim c k) (inHalf (side k) r) j := by
  have up : ∀ q, k0_pay3 (k0_pay1 (bV m c)) (chunk (aV m c) q) (ix3 (0 : Fin 1) r j) = part m c q (inHalf 0 r) j :=
    fun q => cut_at m c q 0 r j _ _
  have low : ∀ q, k0_pay4 (k0_pay1 (bV m c)) (chunk (aV m c) q) (ix3 (0 : Fin 1) r j) = part m c q (inHalf 1 r) j :=
    fun q => cut_at m c q 1 r j _ _
  match k with
  | 0 => exact up (nxt (nxt c))
  | 1 => exact low (nxt (nxt c))
  | 2 => exact up (nxt c)
  | 3 => exact low (prv c)
  | 4 => exact low (nxt c)
  | 5 => exact up (prv c)

/-- The two slabs added on the way, at an element. -/
theorem add_at (x y : Vec Ideal S1x96x768 .bf16) (r : Fin 96) (j : Fin 768) :
    k0_pay12 x y (ix3 (0 : Fin 1) r j) = x (ix3 (0 : Fin 1) r j) + y (ix3 (0 : Fin 1) r j) := by
  unfold k0_pay12
  rw [slab_at]
  exact congrArg₂ (· + ·) (flat_at x r j _) (flat_at y r j _)

/-- The three slabs added at the end, at an element. -/
theorem add3_at (x y z : Vec Ideal S1x96x768 .bf16) (r : Fin 96) (j : Fin 768) :
    k0_pay14 x y z (ix2 r j) = x (ix3 (0 : Fin 1) r j) + y (ix3 (0 : Fin 1) r j) + z (ix3 (0 : Fin 1) r j) := by
  unfold k0_pay14
  exact congrArg₂ (· + ·) (congrArg₂ (· + ·) (flat_at x r j _) (flat_at y r j _)) (flat_at z r j _)

/-- A half of a device's own partial product, at an element. -/
theorem ownHalf_at (c : Dev nD) (h : Fin 2) (r : Fin 96) (j : Fin 768) :
    ownHalf m c h (ix3 (0 : Fin 1) r j) = part m c c (inHalf h r) j := by
  have e : ownHalf m c h (ix3 (0 : Fin 1) r j) = ownV m c (ix3 h r j) := by
    refine congrArg (ownV m c) (funext fun a => Fin.ext ?_)
    match a with
    | ⟨0, _⟩ => show h.val + 1 * 0 = h.val; omega
    | ⟨1, _⟩ => show 0 + 1 * r.val = r.val; omega
    | ⟨2, _⟩ => show 0 + 1 * j.val = j.val; omega
  rw [e, ← prod_at]
  unfold ownV k0_pay11
  rw [shapeCast_self]
  refine shapeCast_apply _ _ _ (ix2 (inHalf h r) j) ?_
  rw [Shape.rowMajor_val_two, Shape.rowMajor_val_three]
  show (96 * h.val + r.val) * 768 + j.val = (h.val * 96 + r.val) * 768 + j.val
  ring

/-! ## The result -/

/-- The four devices, counted from any one of them. -/
theorem sum_around (c : Dev nD) (f : Dev nD → EReal) : ∑ d : Dev nD, f d = f c + f (nxt c) + f (nxt (nxt c)) + f (prv c) := by
  have : ∑ d : Dev nD, f d = f 0 + f 1 + f 2 + f 3 := Fin.sum_univ_four f
  rw [this]
  fin_cases c
  · rfl
  · show _ = f 1 + f 2 + f 3 + f 0
    abel
  · show _ = f 2 + f 3 + f 0 + f 1
    abel
  · show _ = f 3 + f 0 + f 1 + f 2
    abel

/-- Either half of a device's result is the sum of the four devices' partial products of its row chunk. -/
theorem outHalf_at (c : Dev nD) (h : Fin 2) (r : Fin 96) (j : Fin 768) :
    outHalf m c h (ix2 r j) = ∑ d : Dev nD, part m d c (inHalf h r) j := by
  have back : ∀ d : Dev nD, nxt (prv d) = d ∧ prv (nxt d) = d ∧ nxt (nxt (prv (prv d))) = d ∧ nxt (nxt (nxt (nxt d))) = d
      ∧ prv (prv d) = nxt (nxt d) := by decide
  obtain ⟨b1, b2, b3, b4, b5⟩ := back c
  rw [sum_around c]
  match h with
  | 0 =>
    have e2 : landed m c 2 = base m (prv c) 2 := rfl
    have e4 : landed m c 4 = k0_pay12 (base m (nxt c) 5) (base m (nxt (nxt c)) 0) := rfl
    show k0_pay14 (ownHalf m c 0) (landed m c 2) (landed m c 4) (ix2 r j) = _
    rw [add3_at, e2, e4, add_at, ownHalf_at, base_at, base_at, base_at]
    show part m c c (inHalf 0 r) j + part m (prv c) (nxt (prv c)) (inHalf 0 r) j
      + (part m (nxt c) (prv (nxt c)) (inHalf 0 r) j + part m (nxt (nxt c)) (nxt (nxt (nxt (nxt c)))) (inHalf 0 r) j) = _
    rw [b1, b2, b4]
    abel
  | 1 =>
    have e3 : landed m c 3 = base m (nxt c) 3 := rfl
    have e5 : landed m c 5 = k0_pay12 (base m (prv c) 4) (base m (prv (prv c)) 1) := rfl
    show k0_pay14 (ownHalf m c 1) (landed m c 3) (landed m c 5) (ix2 r j) = _
    rw [add3_at, e3, e5, add_at, ownHalf_at, base_at, base_at, base_at]
    show part m c c (inHalf 1 r) j + part m (nxt c) (prv (nxt c)) (inHalf 1 r) j
      + (part m (prv c) (nxt (prv c)) (inHalf 1 r) j + part m (prv (prv c)) (nxt (nxt (prv (prv c)))) (inHalf 1 r) j) = _
    rw [b1, b2, b3, b5]
    abel

/-- A device's result is the sum of the four devices' partial products of its row chunk. -/
theorem outV_at (c : Dev nD) (i : Fin 192) (j : Fin 768) : outV m c (ix2 i j) = ∑ d : Dev nD, part m d c i j := by
  have low : ∀ r : Fin 96, outV m c (ix2 (inHalf 1 r) j) = outHalf m c 1 (ix2 r j) := fun r => by
    have e : (outR 1).emb (ix2 r j) = ix2 (inHalf 1 r) j := Shape.idx_ext₂
      (show 96 + 1 * r.val = 96 * 1 + r.val by omega) (show 0 + 1 * j.val = j.val by omega)
    rw [← e]; exact outOver_low m c _ (ix2 r j)
  have up : ∀ r : Fin 96, outV m c (ix2 (inHalf 0 r) j) = outHalf m c 0 (ix2 r j) := fun r => by
    have e : (outR 0).emb (ix2 r j) = ix2 (inHalf 0 r) j := Shape.idx_ext₂
      (show 0 + 1 * r.val = 96 * 0 + r.val by omega) (show 0 + 1 * j.val = j.val by omega)
    rw [← e]
    refine outOver_up m c _ (ix2 r j) ?_
    rw [Rect.mem_set_unit]
    intro h
    have := (h 0).1
    rw [e] at this
    have : 96 ≤ 96 * 0 + r.val := this
    omega
  by_cases hi : i.val < 96
  · have e : i = inHalf 0 ⟨i.val, hi⟩ := Fin.ext (show i.val = 96 * 0 + i.val by omega)
    rw [e, up, outHalf_at]
  · have e : i = inHalf 1 ⟨i.val - 96, by omega⟩ := Fin.ext (show i.val = 96 * 1 + (i.val - 96) by omega)
    rw [e, low, outHalf_at]

/-! ## The whole matrices -/

/-- The left operand's staged block is the device's array. -/
theorem aV_eq (c : Dev nD) : aV m c = m ((c : Thread nD τ).loc main_arg0) :=
  funext fun x => congrArg (m ((c : Thread nD τ).loc main_arg0)) (Shape.idx_ext₂
    (show 0 * 768 + 1 * (x 0).val = (x 0).val by omega) (show 0 * 384 + 1 * (x 1).val = (x 1).val by omega))

/-- The right operand's staged block is the device's array. -/
theorem bV_eq (c : Dev nD) : bV m c = m ((c : Thread nD τ).loc main_arg1) :=
  funext fun x => congrArg (m ((c : Thread nD τ).loc main_arg1)) (Shape.idx_ext₂
    (show 0 * 384 + 1 * (x 0).val = (x 0).val by omega) (show 0 * 768 + 1 * (x 1).val = (x 1).val by omega))

/-- A result array ends at the device's result. -/
theorem final_out (c : Dev nD) : finalA m c 2 = outV m c := by
  have hx : ∀ x : S192x768.Idx, (win0_2.blk (0 : Fin 1)).view.emb x = x := fun x => Shape.idx_ext₂
    (show 0 * 192 + 1 * (x 0).val = (x 0).val by omega) (show 0 * 768 + 1 * (x 1).val = (x 1).val by omega)
  refine (dats m 0 c).arrAt_eq_of_cover 2 (outV m c) (fun t _ => ?_) (fun i => ⟨(0 : Fin 1), flush0_2 (0 : Fin 1), ?_⟩)
  · obtain rfl : t = (0 : Fin 1) := Subsingleton.elim (α := Fin 1) _ _
    exact funext fun x => (congrArg (outV m c) (hx x)).symm
  · have := View.emb_mem_set (win0_2.blk (0 : Fin 1)).view i
    rwa [hx] at this

/-- A sum over the 1536 contracted columns is the sum over the four devices' 384. -/
theorem sum_split (f : Fin 1536 → EReal) :
    ∑ k : Fin 1536, f k = ∑ d : Fin 4, ∑ k : Fin 384, f ⟨384 * d.val + k.val, by omega⟩ := by
  rw [← Fintype.sum_prod_type' (f := fun (d : Fin 4) (k : Fin 384) => f ⟨384 * d.val + k.val, by omega⟩)]
  refine (Fintype.sum_equiv (finProdFinEquiv (m := 4) (n := 384)) _ _ fun x => ?_).symm
  exact congrArg f (Fin.ext (show 384 * x.1.val + x.2.val = x.2.val + 384 * x.1.val by omega))

/-- From the blocks of two whole matrices, each device ends with its block of rows of their product. -/
theorem out_block (A : Vec Ideal ⟨2, ![768, 1536]⟩ .bf16) (B : Vec Ideal ⟨2, ![1536, 768]⟩ .bf16) (P : Vec Ideal ⟨2, ![768, 768]⟩ .bf16)
    (hP : ∀ i j, P (ix2 i j) = ∑ k : Fin 1536, A (ix2 i k) * B (ix2 k j))
    (hA : ∀ c : Dev nD, m ((c : Thread nD τ).loc main_arg0) = Layout.block ⟨2, ![768, 384]⟩ ⟨2, ![768, 1536]⟩ 1 4 c A)
    (hB : ∀ c : Dev nD, m ((c : Thread nD τ).loc main_arg1) = Layout.block ⟨2, ![384, 768]⟩ ⟨2, ![1536, 768]⟩ 0 4 c B)
    (c : Dev nD) : outV m c = Layout.block ⟨2, ![192, 768]⟩ ⟨2, ![768, 768]⟩ 0 4 c P := by
  have at' : ∀ (i : Fin 192) (j : Fin 768),
      outV m c (ix2 i j) = Layout.block ⟨2, ![192, 768]⟩ ⟨2, ![768, 768]⟩ 0 4 c P (by decide) (ix2 i j) := fun i j => by
    rw [outV_at]
    refine Eq.trans ?_ ((hP (rowOf c i) j).symm.trans (congrArg P (Shape.idx_ext₂ ?_ rfl)))
    · rw [sum_split]
      refine Finset.sum_congr rfl fun d _ => Finset.sum_congr rfl fun k _ => ?_
      rw [aV_eq, bV_eq, hA, hB]
      refine congrArg₂ (· * ·) (congrArg A (Shape.idx_ext₂ rfl ?_)) (congrArg B (Shape.idx_ext₂ ?_ rfl))
      · show d.val * 384 + k.val = 384 * d.val + k.val
        omega
      · show d.val * 384 + k.val = 384 * d.val + k.val
        omega
    · show 192 * c.val + i.val = c.val * 192 + i.val
      omega
  exact funext fun x => by
    obtain ⟨i, j, rfl⟩ : ∃ (i : Fin 192) (j : Fin 768), x = ix2 i j := ⟨x 0, x 1, eq_ix2 x⟩
    exact at' i j

end Cert.RS

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Launch
public import proofs.«01_k».proof.Proof.Value

@[expose] public section

noncomputable section

namespace Cert.Proof

open Idealize.ShloMosaic Idealize.SL.Sem

/-- The kernel with floats as extended reals runs to its end, leaves its arguments unchanged and every semaphore at zero. -/
theorem frame_ideal : Cert.quiescent_KernelIdeal := fun m g _ => Cert.RS.run_frame (F := Ideal) m g

/-- The two printings of the kernel have one table of bodies. -/
theorem tables {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  obtain rfl : l = (0 : Fin 1) := Subsingleton.elim (α := Fin 1) _ _
  rfl

/-- So they have one table of programs. -/
theorem programs {F : FTy → Type} [FloatOps F] : Cert.Kernel.defs (F := F) = Cert.KernelIdeal.defs (F := F) :=
  congrArg (Pipeline.defs Cert.KernelIdeal.pcfgs) tables

/-- The kernel with its floats as words of bits runs to its end, leaves its arguments unchanged and every semaphore at zero. -/
theorem frame_words : Cert.quiescent_Kernel := fun m g _ => by
  rw [programs]
  exact Cert.RS.run_frame (F := Bits) m g

/-- The reference runs to its end, leaves its arguments unchanged and, having no semaphore, every semaphore at zero. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- With floats as extended reals, on every device the kernel's result is the device's block of rows of the reference's. -/
theorem value : Cert.algebraic_KernelIdeal_ReferenceIdeal := fun m g m' g' _ hm => by
  let A : FVec Ideal ⟨2, ![768, 1536]⟩ .bf16 := m' (((0 : Dev Cert.ReferenceIdeal.nD).tc : Thread Cert.ReferenceIdeal.nD Cert.ReferenceIdeal.τ).loc Cert.ReferenceIdeal.main_arg0)
  let B : FVec Ideal ⟨2, ![1536, 768]⟩ .bf16 := m' (((0 : Dev Cert.ReferenceIdeal.nD).tc : Thread Cert.ReferenceIdeal.nD Cert.ReferenceIdeal.τ).loc Cert.ReferenceIdeal.main_arg1)
  let P : FVec Ideal ⟨2, ![768, 768]⟩ .bf16 :=
    truncf (F := Ideal) .bf16 (Host.dotGeneral (F := Ideal) Cert.ReferenceIdeal.dot_S768x1536_S1536x768_S768x768_1_0_0_1_n_n none A B) Cert.ReferenceIdeal.Gen.bitsLt_bf16_f32
  have hP : ∀ i j, P (ValueIdx.ix2 i j) = ∑ k : Fin 1536, A (ValueIdx.ix2 i k) * B (ValueIdx.ix2 k j) :=
    StackMember.dotGeneral_plain_apply (m := 768) (k := 1536) (n := 768) (φ₁ := .bf16) (φ₂ := .bf16) none A B
  refine ⟨P, (θ_run Cert.KernelIdeal.defs _ _).mono (fun r h c => ?_) (Cert.RS.run_main (F := Ideal) m g),
    (θ_run Cert.ReferenceIdeal.defs _ _).mono (fun _ h => h 0) (Cert.ReferenceIdeal.Value.run (F := Ideal) m' g')⟩
  exact ⟨((h.1 c 2).trans (Cert.RS.final_out m c)).trans
      (Cert.RS.out_block m A B P hP (fun c => (hm c).1) (fun c => (hm c).2) c),
    Cert.RS.kept_left h.1 c, Cert.RS.kept_right h.1 c⟩

/-- All five claims. -/
theorem claim : Cert.Claim := ⟨Cert.Kernel.Gen.facts, Cert.KernelIdeal.Gen.facts, Cert.ReferenceIdeal.Gen.facts,
  frame_words, frame_ideal, frame_reference, trivial, value⟩

end Cert.Proof

end
